-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v221)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v221) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S8x4096x1536 : Shape := ⟨3, ![8, 4096, 1536]⟩
abbrev S8x256x1536 : Shape := ⟨3, ![8, 256, 1536]⟩
abbrev S8x15x31 : Shape := ⟨3, ![8, 15, 31]⟩
abbrev S8x4096x1024 : Shape := ⟨3, ![8, 4096, 1024]⟩
abbrev S_ : Shape := ⟨0, ![]⟩
abbrev S8x256x512 : Shape := ⟨3, ![8, 256, 512]⟩

class Facts : Prop where
  slices_S8x4096x1536_S8x4096x1024_0_0_0 : S8x4096x1536.Slices ![0, 0, 0] S8x4096x1024
  bcast_S_S8x4096x1024 : S_.BroadcastsInDim S8x4096x1024 (![] : Fin 0 → Fin S8x4096x1024.rank)
  slices_S8x256x1536_S8x256x512_0_0_512 : S8x256x1536.Slices ![0, 0, 512] S8x256x512
  bcast_S_S8x256x512 : S_.BroadcastsInDim S8x256x512 (![] : Fin 0 → Fin S8x256x512.rank)
  bcast_S_S8x15x31 : S_.BroadcastsInDim S8x15x31 (![] : Fin 0 → Fin S8x15x31.rank)

variable [Facts]

def fn {F : FTy → Type} [FloatOps F] (main_arg0 : FVec F S8x4096x1536 .bf16) (main_arg1 : FVec F S8x256x1536 .bf16) (main_arg2 : FVec F S8x15x31 .f32) : IVec S8x4096x1024 1 × IVec S8x256x512 1 × IVec S8x15x31 1 :=
  let main_v0 : FVec F S8x4096x1024 .bf16 := (extractStridedSlice S8x4096x1024 ![0, 0, 0] · slices_S8x4096x1536_S8x4096x1024_0_0_0) main_arg0
  let main_v1 : FVec F S8x4096x1024 .bf16 := Host.absf main_v0
  let main_cst : FVec F S_ .bf16 := constant S_ .bf16 0x7F80#16
  let main_v2 : FVec F S8x4096x1024 .bf16 := broadcastInDim S8x4096x1024 ![] bcast_S_S8x4096x1024 main_cst
  let main_v3 : IVec S8x4096x1024 1 := cmpf .olt main_v1 main_v2
  let main_v4 : FVec F S8x256x512 .bf16 := (extractStridedSlice S8x256x512 ![0, 0, 512] · slices_S8x256x1536_S8x256x512_0_0_512) main_arg1
  let main_v5 : FVec F S8x256x512 .bf16 := Host.absf main_v4
  let main_cst_0 : FVec F S_ .bf16 := constant S_ .bf16 0x7F80#16
  let main_v6 : FVec F S8x256x512 .bf16 := broadcastInDim S8x256x512 ![] bcast_S_S8x256x512 main_cst_0
  let main_v7 : IVec S8x256x512 1 := cmpf .olt main_v5 main_v6
  let main_v8 : FVec F S8x15x31 .f32 := Host.absf main_arg2
  let main_cst_1 : FVec F S_ .f32 := constant S_ .f32 0x7F800000#32
  let main_v9 : FVec F S8x15x31 .f32 := broadcastInDim S8x15x31 ![] bcast_S_S8x15x31 main_cst_1
  let main_v10 : IVec S8x15x31 1 := cmpf .olt main_v8 main_v9
  (main_v3, main_v7, main_v10)
-- ==== Kernel.lean ====
abbrev S8x4096x1536 : Shape := ⟨3, ![8, 4096, 1536]⟩
abbrev S8x256x1536 : Shape := ⟨3, ![8, 256, 1536]⟩
abbrev S8x15x31 : Shape := ⟨3, ![8, 15, 31]⟩
abbrev S64x64 : Shape := ⟨2, ![64, 64]⟩
abbrev S16 : Shape := ⟨1, ![16]⟩
abbrev S_ : Shape := ⟨0, ![]⟩
abbrev S8x15x128 : Shape := ⟨3, ![8, 15, 128]⟩
abbrev S1x8x1x15x1x128 : Shape := ⟨6, ![1, 8, 1, 15, 1, 128]⟩
abbrev S1x8x1x15x64x128 : Shape := ⟨6, ![1, 8, 1, 15, 64, 128]⟩
abbrev S8x15x8192 : Shape := ⟨3, ![8, 15, 8192]⟩
abbrev S8x15x8128 : Shape := ⟨3, ![8, 15, 8128]⟩
abbrev S8x15x64x127 : Shape := ⟨4, ![8, 15, 64, 127]⟩
abbrev S1x1x64x64 : Shape := ⟨4, ![1, 1, 64, 64]⟩
abbrev S8x15x64x64 : Shape := ⟨4, ![8, 15, 64, 64]⟩
abbrev S8x64x64 : Shape := ⟨3, ![8, 64, 64]⟩
abbrev S8x1x64x64 : Shape := ⟨4, ![8, 1, 64, 64]⟩
abbrev S8x64x768 : Shape := ⟨3, ![8, 64, 768]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S8x4096x512 : Shape := ⟨3, ![8, 4096, 512]⟩
abbrev S1x256x512 : Shape := ⟨3, ![1, 256, 512]⟩
abbrev S1x4096x512 : Shape := ⟨3, ![1, 4096, 512]⟩
abbrev S1 : Shape := ⟨1, ![1]⟩
abbrev S1x768x512 : Shape := ⟨3, ![1, 768, 512]⟩
abbrev S768x512 : Shape := ⟨2, ![768, 512]⟩
abbrev S256x512 : Shape := ⟨2, ![256, 512]⟩
abbrev S1x128 : Shape := ⟨2, ![1, 128]⟩
abbrev S256x128 : Shape := ⟨2, ![256, 128]⟩
abbrev S768x128 : Shape := ⟨2, ![768, 128]⟩
abbrev S1x1x256x768 : Shape := ⟨4, ![1, 1, 256, 768]⟩
abbrev S256x768 : Shape := ⟨2, ![256, 768]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 233
  | .vmem => 14
  | .smem => 2
  | _ => 0

abbrev hbmTy0_0 (i : Nat) : BufTy := match i % 128 with
  | 0 => ⟨S8x4096x1536, .bf16⟩
  | 1 => ⟨S8x256x1536, .bf16⟩
  | 2 => ⟨S8x15x31, .f32⟩
  | 3 => ⟨S64x64, .i1⟩
  | 4 => ⟨S_, .i32⟩
  | 5 => ⟨S_, .f32⟩
  | 6 => ⟨S8x15x128, .f32⟩
  | 7 => ⟨S1x8x1x15x1x128, .f32⟩
  | 8 => ⟨S1x8x1x15x64x128, .f32⟩
  | 9 => ⟨S8x15x8192, .f32⟩
  | 10 => ⟨S8x15x8128, .f32⟩
  | 11 => ⟨S8x15x64x127, .f32⟩
  | 12 => ⟨S1x1x64x64, .i1⟩
  | 13 => ⟨S8x15x64x64, .f32⟩
  | 14 => ⟨S_, .f32⟩
  | 15 => ⟨S_, .f32⟩
  | 16 => ⟨S8x15x64x64, .i1⟩
  | 17 => ⟨S8x15x64x64, .f32⟩
  | 18 => ⟨S8x15x64x64, .f32⟩
  | 19 => ⟨S_, .f32⟩
  | 20 => ⟨S8x64x64, .f32⟩
  | 21 => ⟨S8x1x64x64, .f32⟩
  | 22 => ⟨S8x64x64, .f32⟩
  | 23 => ⟨S8x1x64x64, .f32⟩
  | 24 => ⟨S8x64x64, .f32⟩
  | 25 => ⟨S8x1x64x64, .f32⟩
  | 26 => ⟨S8x64x64, .f32⟩
  | 27 => ⟨S8x1x64x64, .f32⟩
  | 28 => ⟨S8x64x64, .f32⟩
  | 29 => ⟨S8x1x64x64, .f32⟩
  | 30 => ⟨S8x64x64, .f32⟩
  | 31 => ⟨S8x1x64x64, .f32⟩
  | 32 => ⟨S8x64x64, .f32⟩
  | 33 => ⟨S8x1x64x64, .f32⟩
  | 34 => ⟨S8x64x64, .f32⟩
  | 35 => ⟨S8x1x64x64, .f32⟩
  | 36 => ⟨S8x64x64, .f32⟩
  | 37 => ⟨S8x64x768, .f32⟩
  | 38 => ⟨S8x1x64x64, .f32⟩
  | 39 => ⟨S8x64x64, .f32⟩
  | 40 => ⟨S8x1x64x64, .f32⟩
  | 41 => ⟨S8x64x64, .f32⟩
  | 42 => ⟨S8x1x64x64, .f32⟩
  | 43 => ⟨S8x64x64, .f32⟩
  | 44 => ⟨S8x1x64x64, .f32⟩
  | 45 => ⟨S8x64x64, .f32⟩
  | 46 => ⟨S8x1x64x64, .f32⟩
  | 47 => ⟨S8x64x64, .f32⟩
  | 48 => ⟨S8x1x64x64, .f32⟩
  | 49 => ⟨S8x64x64, .f32⟩
  | 50 => ⟨S8x1x64x64, .f32⟩
  | 51 => ⟨S8x64x64, .f32⟩
  | 52 => ⟨S8x1x64x64, .f32⟩
  | 53 => ⟨S8x64x64, .f32⟩
  | 54 => ⟨S8x64x768, .f32⟩
  | 55 => ⟨S8x1x64x64, .f32⟩
  | 56 => ⟨S8x64x64, .f32⟩
  | 57 => ⟨S8x1x64x64, .f32⟩
  | 58 => ⟨S8x64x64, .f32⟩
  | 59 => ⟨S8x1x64x64, .f32⟩
  | 60 => ⟨S8x64x64, .f32⟩
  | 61 => ⟨S8x1x64x64, .f32⟩
  | 62 => ⟨S8x64x64, .f32⟩
  | 63 => ⟨S8x1x64x64, .f32⟩
  | 64 => ⟨S8x64x64, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x64x768, .f32⟩
  | 72 => ⟨S8x1x64x64, .f32⟩
  | 73 => ⟨S8x64x64, .f32⟩
  | 74 => ⟨S8x1x64x64, .f32⟩
  | 75 => ⟨S8x64x64, .f32⟩
  | 76 => ⟨S8x1x64x64, .f32⟩
  | 77 => ⟨S8x64x64, .f32⟩
  | 78 => ⟨S8x1x64x64, .f32⟩
  | 79 => ⟨S8x64x64, .f32⟩
  | 80 => ⟨S8x1x64x64, .f32⟩
  | 81 => ⟨S8x64x64, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x64x768, .f32⟩
  | 89 => ⟨S8x256x768, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x1x64x64, .f32⟩
  | 97 => ⟨S8x64x64, .f32⟩
  | 98 => ⟨S8x1x64x64, .f32⟩
  | 99 => ⟨S8x64x64, .f32⟩
  | 100 => ⟨S8x1x64x64, .f32⟩
  | 101 => ⟨S8x64x64, .f32⟩
  | 102 => ⟨S8x1x64x64, .f32⟩
  | 103 => ⟨S8x64x64, .f32⟩
  | 104 => ⟨S8x1x64x64, .f32⟩
  | 105 => ⟨S8x64x64, .f32⟩
  | 106 => ⟨S8x64x768, .f32⟩
  | 107 => ⟨S8x1x64x64, .f32⟩
  | 108 => ⟨S8x64x64, .f32⟩
  | 109 => ⟨S8x1x64x64, .f32⟩
  | 110 => ⟨S8x64x64, .f32⟩
  | 111 => ⟨S8x1x64x64, .f32⟩
  | 112 => ⟨S8x64x64, .f32⟩
  | 113 => ⟨S8x1x64x64, .f32⟩
  | 114 => ⟨S8x64x64, .f32⟩
  | 115 => ⟨S8x1x64x64, .f32⟩
  | 116 => ⟨S8x64x64, .f32⟩
  | 117 => ⟨S8x1x64x64, .f32⟩
  | 118 => ⟨S8x64x64, .f32⟩
  | 119 => ⟨S8x1x64x64, .f32⟩
  | 120 => ⟨S8x64x64, .f32⟩
  | 121 => ⟨S8x1x64x64, .f32⟩
  | 122 => ⟨S8x64x64, .f32⟩
  | 123 => ⟨S8x64x768, .f32⟩
  | 124 => ⟨S8x1x64x64, .f32⟩
  | 125 => ⟨S8x64x64, .f32⟩
  | 126 => ⟨S8x1x64x64, .f32⟩
  | 127 => ⟨S8x64x64, .f32⟩
  | _ => ⟨S8x4096x1536, .bf16⟩

abbrev hbmTy0_1 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x1x64x64, .f32⟩
  | 5 => ⟨S8x64x64, .f32⟩
  | 6 => ⟨S8x1x64x64, .f32⟩
  | 7 => ⟨S8x64x64, .f32⟩
  | 8 => ⟨S8x1x64x64, .f32⟩
  | 9 => ⟨S8x64x64, .f32⟩
  | 10 => ⟨S8x1x64x64, .f32⟩
  | 11 => ⟨S8x64x64, .f32⟩
  | 12 => ⟨S8x64x768, .f32⟩
  | 13 => ⟨S8x1x64x64, .f32⟩
  | 14 => ⟨S8x64x64, .f32⟩
  | 15 => ⟨S8x1x64x64, .f32⟩
  | 16 => ⟨S8x64x64, .f32⟩
  | 17 => ⟨S8x1x64x64, .f32⟩
  | 18 => ⟨S8x64x64, .f32⟩
  | 19 => ⟨S8x1x64x64, .f32⟩
  | 20 => ⟨S8x64x64, .f32⟩
  | 21 => ⟨S8x1x64x64, .f32⟩
  | 22 => ⟨S8x64x64, .f32⟩
  | 23 => ⟨S8x1x64x64, .f32⟩
  | 24 => ⟨S8x64x64, .f32⟩
  | 25 => ⟨S8x1x64x64, .f32⟩
  | 26 => ⟨S8x64x64, .f32⟩
  | 27 => ⟨S8x1x64x64, .f32⟩
  | 28 => ⟨S8x64x64, .f32⟩
  | 29 => ⟨S8x64x768, .f32⟩
  | 30 => ⟨S8x256x768, .f32⟩
  | 31 => ⟨S8x1x64x64, .f32⟩
  | 32 => ⟨S8x64x64, .f32⟩
  | 33 => ⟨S8x1x64x64, .f32⟩
  | 34 => ⟨S8x64x64, .f32⟩
  | 35 => ⟨S8x1x64x64, .f32⟩
  | 36 => ⟨S8x64x64, .f32⟩
  | 37 => ⟨S8x1x64x64, .f32⟩
  | 38 => ⟨S8x64x64, .f32⟩
  | 39 => ⟨S8x1x64x64, .f32⟩
  | 40 => ⟨S8x64x64, .f32⟩
  | 41 => ⟨S8x1x64x64, .f32⟩
  | 42 => ⟨S8x64x64, .f32⟩
  | 43 => ⟨S8x1x64x64, .f32⟩
  | 44 => ⟨S8x64x64, .f32⟩
  | 45 => ⟨S8x1x64x64, .f32⟩
  | 46 => ⟨S8x64x64, .f32⟩
  | 47 => ⟨S8x64x768, .f32⟩
  | 48 => ⟨S8x1x64x64, .f32⟩
  | 49 => ⟨S8x64x64, .f32⟩
  | 50 => ⟨S8x1x64x64, .f32⟩
  | 51 => ⟨S8x64x64, .f32⟩
  | 52 => ⟨S8x1x64x64, .f32⟩
  | 53 => ⟨S8x64x64, .f32⟩
  | 54 => ⟨S8x1x64x64, .f32⟩
  | 55 => ⟨S8x64x64, .f32⟩
  | 56 => ⟨S8x1x64x64, .f32⟩
  | 57 => ⟨S8x64x64, .f32⟩
  | 58 => ⟨S8x1x64x64, .f32⟩
  | 59 => ⟨S8x64x64, .f32⟩
  | 60 => ⟨S8x1x64x64, .f32⟩
  | 61 => ⟨S8x64x64, .f32⟩
  | 62 => ⟨S8x1x64x64, .f32⟩
  | 63 => ⟨S8x64x64, .f32⟩
  | 64 => ⟨S8x64x768, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x1x64x64, .f32⟩
  | 80 => ⟨S8x64x64, .f32⟩
  | 81 => ⟨S8x64x768, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x1x64x64, .f32⟩
  | 89 => ⟨S8x64x64, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x1x64x64, .f32⟩
  | 97 => ⟨S8x64x64, .f32⟩
  | 98 => ⟨S8x64x768, .f32⟩
  | 99 => ⟨S8x256x768, .f32⟩
  | 100 => ⟨S1x8x256x768, .f32⟩
  | 101 => ⟨S1x8x256x768, .f32⟩
  | 102 => ⟨S1x8x256x768, .f32⟩
  | 103 => ⟨S3x8x256x768, .f32⟩
  | 104 => ⟨S8x4096x512, .bf16⟩
  | _ => ⟨S8x4096x1536, .bf16⟩

abbrev hbmTy (i : Nat) : BufTy := match i / 128 with
  | 0 => hbmTy0_0 i
  | 1 => hbmTy0_1 i
  | _ => ⟨S8x4096x1536, .bf16⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x8x256x768, .f32⟩
  | .local _ .vmem, ⟨11, _⟩ => ⟨S1x8x256x768, .f32⟩
  | .local _ .vmem, ⟨12, _⟩ => ⟨S1x256x512, .bf16⟩
  | .local _ .vmem, ⟨13, _⟩ => ⟨S1x256x512, .bf16⟩
  | .local _ .smem, ⟨0, _⟩ => ⟨S16, .i32⟩
  | .local _ .smem, ⟨1, _⟩ => ⟨S16, .i32⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_2 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_c_0 : Ref sig .tc := ⟨.smem, 0, rfl⟩
abbrev main_c_1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

abbrev pre0 : Pipeline.Prefetch sig := ⟨2, ![main_c_0.idx, main_c_1.idx], fun | 0 => main_c_0.names | 1 => main_c_1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c64_i32 : BitVec 32 := 64#32
  let v2 : BitVec 32 := Scalar.muli v1 c64_i32
  v2

def k0_off2 (v1 : BitVec 32) : Fin 3 → Nat :=
  let c0 : Index := 0#32
  let c64_i32 : BitVec 32 := 64#32
  let v2 : BitVec 32 := Scalar.muli v1 c64_i32
  let v3 : BitVec 32 := v2
  let v4 : Index := Scalar.indexCast v3
  let c0_0 : Index := 0#32
  ![0, v4.toNat, 0]

def k0_chk1 (v1 : BitVec 32) : Prop :=
  (64 ∣ (k0_mult1 v1).toNat) ∧
  (∀ a, (k0_off2 v1) a + S1x768x512.size a ≤ S1x4096x512.size a)
theorem k0_mult1_dvd : ∀ (v1 : BitVec 32) (k0_hw1 : k0_chk1 v1), 64 ∣ (k0_mult1 v1).toNat := fun v1 k0_hw1 => k0_hw1.1
theorem k0_off2_inb : ∀ (v1 : BitVec 32) (k0_hw1 : k0_chk1 v1), ∀ a, (k0_off2 v1) a + S1x768x512.size a ≤ S1x4096x512.size a := fun v1 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x1536 : Shape := ⟨3, ![8, 4096, 1536]⟩
abbrev S8x256x1536 : Shape := ⟨3, ![8, 256, 1536]⟩
abbrev S8x15x31 : Shape := ⟨3, ![8, 15, 31]⟩
abbrev S8x4096x512 : Shape := ⟨3, ![8, 4096, 512]⟩
abbrev S8x4096x8x64 : Shape := ⟨4, ![8, 4096, 8, 64]⟩
abbrev S8x256x512 : Shape := ⟨3, ![8, 256, 512]⟩
abbrev S8x256x8x64 : Shape := ⟨4, ![8, 256, 8, 64]⟩
abbrev S4096 : Shape := ⟨1, ![4096]⟩
abbrev S_ : Shape := ⟨0, ![]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S4096x128x1 : Shape := ⟨3, ![4096, 128, 1]⟩
abbrev S8x4096x128x512 : Shape := ⟨4, ![8, 4096, 128, 512]⟩
abbrev S8x4096x128x8x64 : Shape := ⟨5, ![8, 4096, 128, 8, 64]⟩
abbrev S8x465 : Shape := ⟨2, ![8, 465]⟩
abbrev S8x4096x128 : Shape := ⟨3, ![8, 4096, 128]⟩
abbrev S8x8x4096x128 : Shape := ⟨4, ![8, 8, 4096, 128]⟩
abbrev S1x8x4096x128 : Shape := ⟨4, ![1, 8, 4096, 128]⟩
abbrev S8x8x4096x256 : Shape := ⟨4, ![8, 8, 4096, 256]⟩
abbrev S8x8x4096x384 : Shape := ⟨4, ![8, 8, 4096, 384]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩

abbrev nBuf : Space → Nat
  | .hbm => 217
  | .vmem => 0
  | .smem => 0
  | _ => 0

abbrev hbmTy0_0 (i : Nat) : BufTy := match i % 128 with
  | 0 => ⟨S8x4096x1536, .bf16⟩
  | 1 => ⟨S8x256x1536, .bf16⟩
  | 2 => ⟨S8x15x31, .f32⟩
  | 3 => ⟨S8x4096x1536, .f32⟩
  | 4 => ⟨S8x256x1536, .f32⟩
  | 5 => ⟨S8x4096x512, .f32⟩
  | 6 => ⟨S8x4096x8x64, .f32⟩
  | 7 => ⟨S8x256x512, .f32⟩
  | 8 => ⟨S8x256x8x64, .f32⟩
  | 9 => ⟨S8x256x512, .f32⟩
  | 10 => ⟨S8x256x8x64, .f32⟩
  | 11 => ⟨S4096, .i32⟩
  | 12 => ⟨S_, .i32⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S4096, .i32⟩
  | 21 => ⟨S4096, .i32⟩
  | 22 => ⟨S_, .i32⟩
  | 23 => ⟨S4096, .i32⟩
  | 24 => ⟨S4096, .i1⟩
  | 25 => ⟨S4096, .i1⟩
  | 26 => ⟨S_, .i32⟩
  | 27 => ⟨S4096, .i32⟩
  | 28 => ⟨S4096, .i32⟩
  | 29 => ⟨S4096, .i32⟩
  | 30 => ⟨S4096, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i1⟩
  | 45 => ⟨S_, .i32⟩
  | 46 => ⟨S_, .i1⟩
  | 47 => ⟨S4096, .i1⟩
  | 48 => ⟨S4096, .i1⟩
  | 49 => ⟨S4096, .i1⟩
  | 50 => ⟨S4096, .i32⟩
  | 51 => ⟨S4096, .i32⟩
  | 52 => ⟨S4096, .i32⟩
  | 53 => ⟨S128, .i32⟩
  | 54 => ⟨S_, .i32⟩
  | 55 => ⟨S_, .i32⟩
  | 56 => ⟨S128, .i32⟩
  | 57 => ⟨S128, .i32⟩
  | 58 => ⟨S128, .i32⟩
  | 59 => ⟨S_, .i32⟩
  | 60 => ⟨S128, .i32⟩
  | 61 => ⟨S128, .i1⟩
  | 62 => ⟨S128, .i32⟩
  | 63 => ⟨S128, .i32⟩
  | 64 => ⟨S_, .i32⟩
  | 65 => ⟨S128, .i32⟩
  | 66 => ⟨S128, .i1⟩
  | 67 => ⟨S128, .i1⟩
  | 68 => ⟨S_, .i32⟩
  | 69 => ⟨S128, .i32⟩
  | 70 => ⟨S128, .i32⟩
  | 71 => ⟨S128, .i32⟩
  | 72 => ⟨S128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128, .i32⟩
  | 80 => ⟨S128, .i32⟩
  | 81 => ⟨S_, .i32⟩
  | 82 => ⟨S128, .i32⟩
  | 83 => ⟨S128, .i1⟩
  | 84 => ⟨S_, .i32⟩
  | 85 => ⟨S128, .i32⟩
  | 86 => ⟨S128, .i1⟩
  | 87 => ⟨S_, .i32⟩
  | 88 => ⟨S_, .i1⟩
  | 89 => ⟨S128, .i1⟩
  | 90 => ⟨S128, .i1⟩
  | 91 => ⟨S128, .i1⟩
  | 92 => ⟨S128, .i32⟩
  | 93 => ⟨S128, .i32⟩
  | 94 => ⟨S128, .i32⟩
  | 95 => ⟨S_, .i32⟩
  | 96 => ⟨S4096, .i32⟩
  | 97 => ⟨S4096, .i32⟩
  | 98 => ⟨S_, .i32⟩
  | 99 => ⟨S_, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S_, .i32⟩
  | 107 => ⟨S4096, .i32⟩
  | 108 => ⟨S4096, .i32⟩
  | 109 => ⟨S_, .i32⟩
  | 110 => ⟨S_, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .i32⟩
  | 121 => ⟨S4096x1, .i32⟩
  | 122 => ⟨S_, .i32⟩
  | 123 => ⟨S128, .i32⟩
  | 124 => ⟨S128, .i32⟩
  | 125 => ⟨S128, .i32⟩
  | 126 => ⟨S1x128, .i32⟩
  | 127 => ⟨S4096x128, .i32⟩
  | _ => ⟨S8x4096x1536, .bf16⟩

abbrev hbmTy0_1 (i : Nat) : BufTy := match i % 128 with
  | 0 => ⟨S4096x128, .i32⟩
  | 1 => ⟨S4096x128, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S4096x1, .i32⟩
  | 21 => ⟨S_, .i32⟩
  | 22 => ⟨S128, .i32⟩
  | 23 => ⟨S128, .i32⟩
  | 24 => ⟨S128, .i32⟩
  | 25 => ⟨S1x128, .i32⟩
  | 26 => ⟨S4096x128, .i32⟩
  | 27 => ⟨S4096x128, .i32⟩
  | 28 => ⟨S4096x128, .i32⟩
  | 29 => ⟨S8x4096x512, .f32⟩
  | 30 => ⟨S_, .i32⟩
  | 31 => ⟨S4096x128, .i32⟩
  | 32 => ⟨S4096x128, .i1⟩
  | 33 => ⟨S_, .i32⟩
  | 34 => ⟨S4096x128, .i32⟩
  | 35 => ⟨S4096x128, .i32⟩
  | 36 => ⟨S4096x128, .i32⟩
  | 37 => ⟨S4096x128x1, .i32⟩
  | 38 => ⟨S8x4096x128x512, .f32⟩
  | 39 => ⟨S8x4096x128x8x64, .f32⟩
  | 40 => ⟨S8x4096x512, .f32⟩
  | 41 => ⟨S_, .i32⟩
  | 42 => ⟨S4096x128, .i32⟩
  | 43 => ⟨S4096x128, .i1⟩
  | 44 => ⟨S_, .i32⟩
  | 45 => ⟨S4096x128, .i32⟩
  | 46 => ⟨S4096x128, .i32⟩
  | 47 => ⟨S4096x128, .i32⟩
  | 48 => ⟨S4096x128x1, .i32⟩
  | 49 => ⟨S8x4096x128x512, .f32⟩
  | 50 => ⟨S8x4096x128x8x64, .f32⟩
  | 51 => ⟨S8x465, .f32⟩
  | 52 => ⟨S_, .i32⟩
  | 53 => ⟨S4096x128, .i32⟩
  | 54 => ⟨S4096x128, .i1⟩
  | 55 => ⟨S_, .i32⟩
  | 56 => ⟨S4096x128, .i32⟩
  | 57 => ⟨S4096x128, .i32⟩
  | 58 => ⟨S4096x128, .i32⟩
  | 59 => ⟨S4096x128x1, .i32⟩
  | 60 => ⟨S8x4096x128, .f32⟩
  | 61 => ⟨S8x8x4096x128, .f32⟩
  | 62 => ⟨S1x8x4096x128, .f32⟩
  | 63 => ⟨S8x8x4096x128, .f32⟩
  | 64 => ⟨S8x8x4096x128, .f32⟩
  | 65 => ⟨S8x8x4096x256, .f32⟩
  | 66 => ⟨S8x8x4096x384, .f32⟩
  | 67 => ⟨S_, .f32⟩
  | 68 => ⟨S8x8x4096, .f32⟩
  | 69 => ⟨S_, .f32⟩
  | 70 => ⟨S8x8x4096, .f32⟩
  | 71 => ⟨S8x8x4096, .f32⟩
  | 72 => ⟨S8x8x4096x1, .f32⟩
  | 73 => ⟨S8x8x4096x384, .f32⟩
  | 74 => ⟨S8x8x4096x384, .f32⟩
  | 75 => ⟨S8x8x4096x384, .f32⟩
  | 76 => ⟨S_, .f32⟩
  | 77 => ⟨S8x8x4096, .f32⟩
  | 78 => ⟨S8x8x4096x1, .f32⟩
  | 79 => ⟨S8x8x4096x384, .f32⟩
  | 80 => ⟨S8x8x4096x384, .f32⟩
  | 81 => ⟨S8x8x4096x128, .f32⟩
  | 82 => ⟨S8x4096x8x64, .f32⟩
  | 83 => ⟨S8x8x4096x256, .f32⟩
  | 84 => ⟨S8x8x64x4096, .f32⟩
  | 85 => ⟨S8x4096x8x64, .f32⟩
  | 86 => ⟨S8x4096x8x64, .f32⟩
  | 87 => ⟨S8x4096x512, .f32⟩
  | 88 => ⟨S8x4096x512, .bf16⟩
  | _ => ⟨S8x4096x1536, .bf16⟩

abbrev hbmTy (i : Nat) : BufTy := match i / 128 with
  | 0 => hbmTy0_0 i
  | 1 => hbmTy0_1 i
  | _ => ⟨S8x4096x1536, .bf16⟩

abbrev bufTy : (tb : Table) → Fin (tcTables nBuf tb) → BufTy
  | .hbm, ⟨i, _⟩ => hbmTy i
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v11 : Ref sig .tc := ⟨.hbm, 52, rfl⟩
abbrev main_v12 : Ref sig .tc := ⟨.hbm, 53, rfl⟩
abbrev main_c_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v13 : Ref sig .tc := ⟨.hbm, 71, rfl⟩
abbrev main_v14 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v15 : Ref sig .tc := ⟨.hbm, 94, rfl⟩
abbrev main_c_3 : Ref sig .tc := ⟨.hbm, 95, rfl⟩
abbrev main_v16 : Ref sig .tc := ⟨.hbm, 96, rfl⟩
abbrev main_v17 : Ref sig .tc := ⟨.hbm, 97, rfl⟩
abbrev main_c_4 : Ref sig .tc := ⟨.hbm, 98, rfl⟩
abbrev main_c_5 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v18 : Ref sig .tc := ⟨.hbm, 105, rfl⟩
abbrev main_c_6 : Ref sig .tc := ⟨.hbm, 106, rfl⟩
abbrev main_v19 : Ref sig .tc := ⟨.hbm, 107, rfl⟩
abbrev main_v20 : Ref sig .tc := ⟨.hbm, 108, rfl⟩
abbrev main_c_7 : Ref sig .tc := ⟨.hbm, 109, rfl⟩
abbrev main_c_8 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v21 : Ref sig .tc := ⟨.hbm, 116, rfl⟩
abbrev main_c_9 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_c_10 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_c_11 : Ref sig .tc := ⟨.hbm, 131, rfl⟩
abbrev main_v34 : Ref sig .tc := ⟨.hbm, 132, rfl⟩
abbrev main_v35 : Ref sig .tc := ⟨.hbm, 133, rfl⟩
abbrev main_c_12 : Ref sig .tc := ⟨.hbm, 134, rfl⟩
abbrev main_v36 : Ref sig .tc := ⟨.hbm, 135, rfl⟩
abbrev main_v37 : Ref sig .tc := ⟨.hbm, 136, rfl⟩
abbrev main_c_13 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_c_14 : Ref sig .tc := ⟨.hbm, 142, rfl⟩
abbrev main_v42 : Ref sig .tc := ⟨.hbm, 143, rfl⟩
abbrev main_v43 : Ref sig .tc := ⟨.hbm, 144, rfl⟩
abbrev main_c_15 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_c_16 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_c_17 : Ref sig .tc := ⟨.hbm, 158, rfl⟩
abbrev main_v55 : Ref sig .tc := ⟨.hbm, 159, rfl⟩
abbrev main_v56 : Ref sig .tc := ⟨.hbm, 160, rfl⟩
abbrev main_c_18 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_c_19 : Ref sig .tc := ⟨.hbm, 169, rfl⟩
abbrev main_v64 : Ref sig .tc := ⟨.hbm, 170, rfl⟩
abbrev main_v65 : Ref sig .tc := ⟨.hbm, 171, rfl⟩
abbrev main_c_20 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_c_21 : Ref sig .tc := ⟨.hbm, 180, rfl⟩
abbrev main_v73 : Ref sig .tc := ⟨.hbm, 181, rfl⟩
abbrev main_v74 : Ref sig .tc := ⟨.hbm, 182, rfl⟩
abbrev main_c_22 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_cst : Ref sig .tc := ⟨.hbm, 195, rfl⟩
abbrev main_v86 : Ref sig .tc := ⟨.hbm, 196, rfl⟩
abbrev main_cst_23 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_cst_24 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S8x6x1024 : Shape := ⟨3, ![8, 6, 1024]⟩
abbrev S1024 : Shape := ⟨1, ![1024]⟩
abbrev S1024x3072 : Shape := ⟨2, ![1024, 3072]⟩
abbrev S3072 : Shape := ⟨1, ![3072]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1x3072 : Shape := ⟨2, ![1, 3072]⟩
abbrev S8x1024x4096 : Shape := ⟨3, ![8, 1024, 4096]⟩
abbrev S1x512x1024 : Shape := ⟨3, ![1, 512, 1024]⟩
abbrev S1x512x512 : Shape := ⟨3, ![1, 512, 512]⟩
abbrev S1x512x256 : Shape := ⟨3, ![1, 512, 256]⟩
abbrev S1x6x1024 : Shape := ⟨3, ![1, 6, 1024]⟩
abbrev S1x1024x512 : Shape := ⟨3, ![1, 1024, 512]⟩
abbrev S6x1024 : Shape := ⟨2, ![6, 1024]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S512x256 : Shape := ⟨2, ![512, 256]⟩
abbrev S1024x512 : Shape := ⟨2, ![1024, 512]⟩

abbrev nBuf : Space → Nat
  | .hbm => 23
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x256, .bf16⟩
  | .hbm, ⟨3, _⟩ => ⟨S8x4096x256, .bf16⟩
  | .hbm, ⟨4, _⟩ => ⟨S8x6x1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x3072, .bf16⟩
  | .hbm, ⟨14, _⟩ => ⟨S512x1024, .bf16⟩
  | .hbm, ⟨15, _⟩ => ⟨S256x1024, .bf16⟩
  | .hbm, ⟨16, _⟩ => ⟨S256x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x3072, .f32⟩
  | .hbm, ⟨21, _⟩ => ⟨S8x4096x1024, .f32⟩
  | .hbm, ⟨22, _⟩ => ⟨S8x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1024x3072, .bf16⟩
  | .local _ .vmem, ⟨13, _⟩ => ⟨S1x3072, .f32⟩
  | .local _ .vmem, ⟨14, _⟩ => ⟨S512x1024, .bf16⟩
  | .local _ .vmem, ⟨15, _⟩ => ⟨S256x1024, .bf16⟩
  | .local _ .vmem, ⟨16, _⟩ => ⟨S256x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x1024x512, .bf16⟩
  | .local _ .vmem, ⟨21, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S8x6x1024 : Shape := ⟨3, ![8, 6, 1024]⟩
abbrev S1024 : Shape := ⟨1, ![1024]⟩
abbrev S1024x3072 : Shape := ⟨2, ![1024, 3072]⟩
abbrev S3072 : Shape := ⟨1, ![3072]⟩
abbrev S512x1024 : Shape := ⟨2, ![512, 1024]⟩
abbrev S256x1024 : Shape := ⟨2, ![256, 1024]⟩
abbrev S1024x1024 : Shape := ⟨2, ![1024, 1024]⟩
abbrev S8x1x6x1024 : Shape := ⟨4, ![8, 1, 6, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x4096x3072 : Shape := ⟨3, ![8, 4096, 3072]⟩
abbrev S1x1x3072 : Shape := ⟨3, ![1, 1, 3072]⟩
abbrev S8x4096x3x1024 : Shape := ⟨4, ![8, 4096, 3, 1024]⟩
abbrev S8x4096x1x1024 : Shape := ⟨4, ![8, 4096, 1, 1024]⟩
abbrev S8x1024x4096 : Shape := ⟨3, ![8, 1024, 4096]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x256, .bf16⟩
  | .hbm, ⟨3, _⟩ => ⟨S8x4096x256, .bf16⟩
  | .hbm, ⟨4, _⟩ => ⟨S8x6x1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S8x4096x512, .f32⟩
  | .hbm, ⟨14, _⟩ => ⟨S8x4096x256, .f32⟩
  | .hbm, ⟨15, _⟩ => ⟨S8x4096x256, .f32⟩
  | .hbm, ⟨16, _⟩ => ⟨S8x1x6x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x1x1x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x1x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4096x3072, .f32⟩
  | .hbm, ⟨45, _⟩ => ⟨S1x1x3072, .f32⟩
  | .hbm, ⟨46, _⟩ => ⟨S8x4096x3072, .f32⟩
  | .hbm, ⟨47, _⟩ => ⟨S8x4096x3072, .f32⟩
  | .hbm, ⟨48, _⟩ => ⟨S8x4096x3072, .f32⟩
  | .hbm, ⟨49, _⟩ => ⟨S8x4096x3072, .f32⟩
  | .hbm, ⟨50, _⟩ => ⟨S_, .f32⟩
  | .hbm, ⟨51, _⟩ => ⟨S8x4096x3072, .f32⟩
  | .hbm, ⟨52, _⟩ => ⟨S8x4096x3072, .f32⟩
  | .hbm, ⟨53, _⟩ => ⟨S_, .f32⟩
  | .hbm, ⟨54, _⟩ => ⟨S8x4096x3072, .f32⟩
  | .hbm, ⟨55, _⟩ => ⟨S8x4096x3072, .f32⟩
  | .hbm, ⟨56, _⟩ => ⟨S8x4096x3x1024, .f32⟩
  | .hbm, ⟨57, _⟩ => ⟨S8x4096x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x1x1x1024, .f32⟩
  | .hbm, ⟨72, _⟩ => ⟨S8x1x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S8x1x1x1024, .f32⟩
  | .hbm, ⟨94, _⟩ => ⟨S8x1x1024, .f32⟩
  | .hbm, ⟨95, _⟩ => ⟨S_, .f32⟩
  | .hbm, ⟨96, _⟩ => ⟨S8x1x1024, .f32⟩
  | .hbm, ⟨97, _⟩ => ⟨S8x1x1024, .f32⟩
  | .hbm, ⟨98, _⟩ => ⟨S8x4096x1024, .f32⟩
  | .hbm, ⟨99, _⟩ => ⟨S8x4096x1024, .f32⟩
  | .hbm, ⟨100, _⟩ => ⟨S8x1x1x1024, .f32⟩
  | .hbm, ⟨101, _⟩ => ⟨S8x1x1024, .f32⟩
  | .hbm, ⟨102, _⟩ => ⟨S8x4096x1024, .f32⟩
  | .hbm, ⟨103, _⟩ => ⟨S8x4096x1024, .f32⟩
  | .hbm, ⟨104, _⟩ => ⟨S8x1024x4096, .f32⟩
  | .hbm, ⟨105, _⟩ => ⟨S8x1024x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S8x6x1024 : Shape := ⟨3, ![8, 6, 1024]⟩
abbrev S1024x2816 : Shape := ⟨2, ![1024, 2816]⟩
abbrev S1x1024 : Shape := ⟨2, ![1, 1024]⟩
abbrev S8x4096x1536 : Shape := ⟨3, ![8, 4096, 1536]⟩
abbrev S8x4096x1280 : Shape := ⟨3, ![8, 4096, 1280]⟩
abbrev S1x512x1024 : Shape := ⟨3, ![1, 512, 1024]⟩
abbrev S1x6x1024 : Shape := ⟨3, ![1, 6, 1024]⟩
abbrev S1x512x1536 : Shape := ⟨3, ![1, 512, 1536]⟩
abbrev S1x512x1280 : Shape := ⟨3, ![1, 512, 1280]⟩
abbrev S6x1024 : Shape := ⟨2, ![6, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S512x512 : Shape := ⟨2, ![512, 512]⟩
abbrev S1x512x512 : Shape := ⟨3, ![1, 512, 512]⟩
abbrev S512x1280 : Shape := ⟨2, ![512, 1280]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x6x1024, .f32⟩
  | .hbm, ⟨3, _⟩ => ⟨S1024x2816, .f32⟩
  | .hbm, ⟨4, _⟩ => ⟨S1024x2816, .bf16⟩
  | .hbm, ⟨5, _⟩ => ⟨S1x1024, .f32⟩
  | .hbm, ⟨6, _⟩ => ⟨S8x4096x1536, .bf16⟩
  | .hbm, ⟨7, _⟩ => ⟨S8x4096x1280, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2816, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x1280, .f32⟩
  | .local _ .vmem, ⟨9, _⟩ => ⟨S1x512x1280, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x1024 : Shape := ⟨3, ![8, 4096, 1024]⟩
abbrev S1024 : Shape := ⟨1, ![1024]⟩
abbrev S8x6x1024 : Shape := ⟨3, ![8, 6, 1024]⟩
abbrev S1024x2816 : Shape := ⟨2, ![1024, 2816]⟩
abbrev S8x1x6x1024 : Shape := ⟨4, ![8, 1, 6, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x4096x2816 : Shape := ⟨3, ![8, 4096, 2816]⟩
abbrev S8x4096x512 : Shape := ⟨3, ![8, 4096, 512]⟩
abbrev S8x4096x1536 : Shape := ⟨3, ![8, 4096, 1536]⟩
abbrev S8x4096x1280 : Shape := ⟨3, ![8, 4096, 1280]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x6x1024, .f32⟩
  | .hbm, ⟨3, _⟩ => ⟨S1024x2816, .f32⟩
  | .hbm, ⟨4, _⟩ => ⟨S8x1x6x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x2816, .f32⟩
  | .hbm, ⟨33, _⟩ => ⟨S8x4096x512, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S8x4096x1024, .f32⟩
  | .hbm, ⟨38, _⟩ => ⟨S8x4096x1536, .f32⟩
  | .hbm, ⟨39, _⟩ => ⟨S8x4096x1536, .bf16⟩
  | .hbm, ⟨40, _⟩ => ⟨S8x4096x1280, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel5.lean ====
abbrev S8x1024x4096 : Shape := ⟨3, ![8, 1024, 4096]⟩
abbrev S1024x2048 : Shape := ⟨2, ![1024, 2048]⟩
abbrev S8x2x128x128 : Shape := ⟨4, ![8, 2, 128, 128]⟩
abbrev S2048x1024 : Shape := ⟨2, ![2048, 1024]⟩
abbrev S16x128x128 : Shape := ⟨3, ![16, 128, 128]⟩
abbrev S16x128x32768 : Shape := ⟨3, ![16, 128, 32768]⟩
abbrev S1x1024x512 : Shape := ⟨3, ![1, 1024, 512]⟩
abbrev S16x128x512 : Shape := ⟨3, ![16, 128, 512]⟩
abbrev S1024x512 : Shape := ⟨2, ![1024, 512]⟩
abbrev S2048x512 : Shape := ⟨2, ![2048, 512]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 8
  | .vmem => 6
  | .smem => 0
  | _ => 0

abbrev bufTy : (tb : Table) → Fin (tcTables nBuf tb) → BufTy
  | .hbm, ⟨0, _⟩ => ⟨S8x1024x4096, .bf16⟩
  | .hbm, ⟨1, _⟩ => ⟨S1024x2048, .f32⟩
  | .hbm, ⟨2, _⟩ => ⟨S8x2x128x128, .f32⟩
  | .hbm, ⟨3, _⟩ => ⟨S1024x2048, .bf16⟩
  | .hbm, ⟨4, _⟩ => ⟨S2048x1024, .bf16⟩
  | .hbm, ⟨5, _⟩ => ⟨S16x128x128, .f32⟩
  | .hbm, ⟨6, _⟩ => ⟨S16x128x128, .bf16⟩
  | .hbm, ⟨7, _⟩ => ⟨S16x128x32768, .f32⟩
  | .local _ .vmem, ⟨0, _⟩ => ⟨S1x1024x512, .bf16⟩
  | .local _ .vmem, ⟨1, _⟩ => ⟨S1x1024x512, .bf16⟩
  | .local _ .vmem, ⟨2, _⟩ => ⟨S2048x1024, .bf16⟩
  | .local _ .vmem, ⟨3, _⟩ => ⟨S16x128x128, .bf16⟩
  | .local _ .vmem, ⟨4, _⟩ => ⟨S16x128x512, .f32⟩
  | .local _ .vmem, ⟨5, _⟩ => ⟨S16x128x512, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024x4096 : Shape := ⟨3, ![8, 1024, 4096]⟩
abbrev S1024x2048 : Shape := ⟨2, ![1024, 2048]⟩
abbrev S8x2x128x128 : Shape := ⟨4, ![8, 2, 128, 128]⟩
abbrev S8x4096x1024 : Shape := ⟨3, ![8, 4096, 1024]⟩
abbrev S32768x1024 : Shape := ⟨2, ![32768, 1024]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S16x128x32768 : Shape := ⟨3, ![16, 128, 32768]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S1024x2048, .f32⟩
  | .hbm, ⟨2, _⟩ => ⟨S8x2x128x128, .f32⟩
  | .hbm, ⟨3, _⟩ => ⟨S8x1024x4096, .f32⟩
  | .hbm, ⟨4, _⟩ => ⟨S8x4096x1024, .f32⟩
  | .hbm, ⟨5, _⟩ => ⟨S32768x1024, .f32⟩
  | .hbm, ⟨6, _⟩ => ⟨S32768x2048, .f32⟩
  | .hbm, ⟨7, _⟩ => ⟨S32768x8x2x128, .f32⟩
  | .hbm, ⟨8, _⟩ => ⟨S8x2x128x32768, .f32⟩
  | .hbm, ⟨9, _⟩ => ⟨S32768x8x2x128, .f32⟩
  | .hbm, ⟨10, _⟩ => ⟨S8x2x128x32768, .f32⟩
  | .hbm, ⟨11, _⟩ => ⟨S16x128x32768, .f32⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8x4096x1024 : Shape := ⟨3, ![8, 4096, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.AttnPre.lean ====
/- What the precondition says: the numbers the scores are made of are real. -/
module

public import proofs.«01_k».proof.Defs
public import proofs.«01_k».proof.Proof.Gen.KernelIdeal
public import Idealize.ShloMosaic.Lib.Pointwise

@[expose] public section

set_option maxRecDepth 16384

noncomputable section

namespace Cert.KernelIdeal.RefValue

open Idealize.ShloMosaic

/-- The side conditions of the precondition's slices and broadcasts. -/
theorem preFacts : Cert.Pre_finite_scores.Facts where
  slices_S8x4096x1536_S8x4096x1024_0_0_0 := by decide
  bcast_S_S8x4096x1024 := by decide
  slices_S8x256x1536_S8x256x512_0_0_512 := by decide
  bcast_S_S8x256x512 := by decide
  bcast_S_S8x15x31 := by decide

/-- A number whose magnitude is below infinity is real. -/
theorem real_of_abs (x : EReal) (h : max x (-x) < ⊤) : ∃ r : ℝ, x = r := by
  have h1 : x ≠ ⊤ := fun e => by rw [e] at h; exact absurd h (by simp)
  have h2 : x ≠ ⊥ := fun e => by rw [e] at h; exact absurd h (by simp)
  exact ⟨x.toReal, (EReal.coe_toReal h1 h2).symm⟩

/-- The word of the bf16 infinity. -/
theorem inf16 : Ideal.ofBits .bf16 0x7F80#16 = ⊤ := by
  simp [Ideal.ofBits, Ideal.ieee]

/-- The word of the f32 infinity. -/
theorem inf32 : Ideal.ofBits .f32 0x7F800000#32 = ⊤ := by
  simp [Ideal.ofBits, Ideal.ieee]

/-- A comparison that came out true. -/
theorem lt_of_cmp (x y : EReal) (h : BitVec.ofBool (decide (x < y)) = 1#1) : x < y := by
  by_contra hn
  simp [hn] at h

variable (x0 : FVec Ideal Cert.Pre_finite_scores.S8x4096x1536 .bf16) (x1 : FVec Ideal Cert.Pre_finite_scores.S8x256x1536 .bf16) (x2 : FVec Ideal Cert.Pre_finite_scores.S8x15x31 .f32)

/-- Queries and keys are real. -/
theorem real_qk [Cert.Pre_finite_scores.Facts] (h : (Cert.Pre_finite_scores.fn (F := Ideal) x0 x1 x2).1 = fun _ => 1#1) (b : Fin 8) (t : Fin 4096) (ch : Fin 1024) :
    ∃ r : ℝ, x0 (ix3 b t ⟨ch.val, by omega⟩) = r := by
  have h' := congrFun h (ix3 b t ch)
  refine real_of_abs _ (inf16 ▸ lt_of_cmp _ _ (Eq.trans (Eq.symm ?_) h'))
  pointwise [Cert.Pre_finite_scores.fn]
  rfl

/-- The context's keys are real. -/
theorem real_kc [Cert.Pre_finite_scores.Facts] (h : (Cert.Pre_finite_scores.fn (F := Ideal) x0 x1 x2).2.1 = fun _ => 1#1) (b : Fin 8) (t : Fin 256) (ch : Fin 512) :
    ∃ r : ℝ, x1 (ix3 b t ⟨512 + ch.val, by omega⟩) = r := by
  have h' := congrFun h (ix3 b t ch)
  refine real_of_abs _ (inf16 ▸ lt_of_cmp _ _ (Eq.trans (Eq.symm ?_) h'))
  pointwise [Cert.Pre_finite_scores.fn]
  rfl

/-- The biases are real. -/
theorem real_bias [Cert.Pre_finite_scores.Facts] (h : (Cert.Pre_finite_scores.fn (F := Ideal) x0 x1 x2).2.2 = fun _ => 1#1) (i) :
    ∃ r : ℝ, x2 i = r := by
  have h' := congrFun h i
  refine real_of_abs _ (inf32 ▸ lt_of_cmp _ _ (Eq.trans (Eq.symm ?_) h'))
  pointwise [Cert.Pre_finite_scores.fn]
  rfl

end Cert.KernelIdeal.RefValue

end
-- ==== Proof.AttnRun.lean ====
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (4 stores of `S1x256x128`, checked by the kernel's evaluation: Lib/Ring.lean `Piece.tiledL`, linear in the pieces, through a loop's `@[irreducible]` trip theorem too), so they cover it. -/
theorem cover0_A_6 (c : Dev nD) (i : grid0.Coords) (arg4 : Memref sig .tc .vmem S1x256x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x8x256x768 .f32) (harg9 : arg9.IsWhole) (arg10 : Memref sig .tc .vmem S1x256x512 .bf16) (harg10 : arg10.IsWhole)
    (x0 : Vec F S1x256x512 .bf16) (x1 : Vec F S1x4096x512 .bf16) (x2 : Vec F S1x4096x512 .bf16) (x3 : Vec F S1x256x512 .bf16) (x4 : Vec F S1x256x512 .bf16) (x5 : Vec F S1x8x256x768 .f32) (xt0 : TbBuf0 (F := F) c tbM0_0) (xt1 : TbBuf0 (F := F) c tbM0_1) (k0_hw1 : k0_chk1 (tbM0_0.view.readAt (Elt F) (Rect.unit (s := S16) (k0_off1 i) S1.size (k0_off1_inb i)).toLoadRect xt0 (Shape.Idx.first (numel1_S1.symm ▸ Nat.one_pos)))) (y : S1x256x512.Idx) :
    ∃ pc ∈ (kernelRun0_A c i arg4 harg4 arg5 harg5 arg6 harg6 arg7 harg7 arg8 harg8 arg9 harg9 arg10 harg10 x0 x1 x2 x3 x4 x5 xt0 xt1 k0_hw1).1, y ∈ pc.1.set :=
  View.cover_of_tiledL (kernelRun0_A c i arg4 harg4 arg5 harg5 arg6 harg6 arg7 harg7 arg8 harg8 arg9 harg9 arg10 harg10 x0 x1 x2 x3 x4 x5 xt0 xt1 k0_hw1).1 S1x256x128.size (by sl_kernel_rfl) y

/-- What the run leaves in output 6's staging buffer: its pieces read back over junk. -/
def out0_A_6 (c : Dev nD) (i : grid0.Coords) (arg4 : Memref sig .tc .vmem S1x256x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x8x256x768 .f32) (harg9 : arg9.IsWhole) (arg10 : Memref sig .tc .vmem S1x256x512 .bf16) (harg10 : arg10.IsWhole)
    (x0 : Vec F S1x256x512 .bf16) (x1 : Vec F S1x4096x512 .bf16) (x2 : Vec F S1x4096x512 .bf16) (x3 : Vec F S1x256x512 .bf16) (x4 : Vec F S1x256x512 .bf16) (x5 : Vec F S1x8x256x768 .f32) (xt0 : TbBuf0 (F := F) c tbM0_0) (xt1 : TbBuf0 (F := F) c tbM0_1) (k0_hw1 : k0_chk1 (tbM0_0.view.readAt (Elt F) (Rect.unit (s := S16) (k0_off1 i) S1.size (k0_off1_inb i)).toLoadRect xt0 (Shape.Idx.first (numel1_S1.symm ▸ Nat.one_pos)))) : Vec F S1x256x512 .bf16 :=
  VO0_6.read (Elt F) (VO0_6.writes (Elt F) VO0_6.junk (kernelRun0_A c i arg4 harg4 arg5 harg5 arg6 harg6 arg7 harg7 arg8 harg8 arg9 harg9 arg10 harg10 x0 x1 x2 x3 x4 x5 xt0 xt1 k0_hw1).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S1x256x512 .bf16 :=
  out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (iblk m hO c 5 t) (tbl m 0) (tbl m 1) (Hyps.c0 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO hH c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl

/-- What the step leaves in buffer 1: the block it was given. -/
theorem after0_1 (hO : Ok m) (hH : Hyps m hO) (c : Dev nD) (t : Fin (cfgM m hO).N) : (dats m hO hH 0 c).after 1 t = iblk m hO c 1 t := by dsimp only [dats]; try rfl

/-- What the step leaves in buffer 2: the block it was given. -/
theorem after0_2 (hO : Ok m) (hH : Hyps m hO) (c : Dev nD) (t : Fin (cfgM m hO).N) : (dats m hO hH 0 c).after 2 t = iblk m hO c 2 t := by dsimp only [dats]; try rfl

/-- What the step leaves in buffer 3: the block it was given. -/
theorem after0_3 (hO : Ok m) (hH : Hyps m hO) (c : Dev nD) (t : Fin (cfgM m hO).N) : (dats m hO hH 0 c).after 3 t = iblk m hO c 3 t := by dsimp only [dats]; try rfl

/-- What the step leaves in buffer 4: the block it was given. -/
theorem after0_4 (hO : Ok m) (hH : Hyps m hO) (c : Dev nD) (t : Fin (cfgM m hO).N) : (dats m hO hH 0 c).after 4 t = iblk m hO c 4 t := by dsimp only [dats]; try rfl

/-- What the step leaves in buffer 5: the block it was given. -/
theorem after0_5 (hO : Ok m) (hH : Hyps m hO) (c : Dev nD) (t : Fin (cfgM m hO).N) : (dats m hO hH 0 c).after 5 t = iblk m hO c 5 t := by dsimp only [dats]; try rfl

/-- What the step leaves in buffer 6: the block it wrote. -/
theorem after0_6 (hO : Ok m) (hH : Hyps m hO) (c : Dev nD) (t : Fin (cfgM m hO).N) : (dats m hO hH 0 c).after 6 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d

/-- What buffer 1 holds before a step: its block. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d

/-- What buffer 2 holds before a step: its block. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-- What buffer 3 holds before a step: its block. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-- What buffer 4 holds before a step: its block. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-- What buffer 5 holds before a step: its block. -/
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6]
  rw [show (dats m hO hH 0 c).Φ t.castSucc = iprop(Pipeline.ΦA spec0 c ∗ Pipeline.ΦT pre0 (tbl m) c) from rfl, PhiT0_eq]
  unfold outsAt0
  unfold out0_A_6
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  iintro ⟨H0, H1, H2, H3, H4, H5, ⟨%e6, H6⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP_shared`'s implicit arguments are found by unifying its conclusion with this one, which takes unfolding plain
-- definitions in a metavariable's type
set_option maxHeartbeats 4000000 in
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_shared (Q' := _) pcfgs (fun _ => adm m hO) (dats m hO hH) (0 : Fin 1) launch₀0 defs₀ Variants.none m ρ main
    (hbody := fun c => (body_obligation m hO hH c).loose) (hq := fun _ _ _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO hH) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hH) ((θ_run defs _ _).mono (fun _ h => h.2) (run_main_quiescent m ρ hO hH))

end Cert.KernelIdeal.Gen

end
-- ==== Proof.AttnTables.lean ====
module

public import proofs.«01_k».proof.Proof.AttnRun
public import Idealize.ShloMosaic.Lib.Claim
public import Idealize.ShloMosaic.Lib.Pointwise

@[expose] public section

set_option maxRecDepth 16384

noncomputable section

namespace Cert.KernelIdeal.Gen

open Idealize.ShloMosaic Idealize.ShloMosaic.TcCoe

variable {F : FTy → Type} [FloatOps F] (m : (ℓ : Loc nD τ sig) → Buf (Elt F) ℓ)

/-- The first table holds, for each group of four image rows, the first image row of the keys it stages. -/
theorem V_starts (c : Dev nD) : V m c main_c_0 = fun i => lit1 (S16.rowMajor i) := by
  simp only [V, hostOps0, hostOps0_1, hostOps0_2, hostOps0_3, hostOps0_4, List.flatten_cons, List.flatten_nil, List.append_nil, List.cons_append, List.nil_append]
  entry_read
  rfl

/-- The second table holds which of the three bias tables each group reads. -/
theorem V_configs (c : Dev nD) : V m c main_c_1 = fun i => lit2 (S16.rowMajor i) := by
  simp only [V, hostOps0, hostOps0_1, hostOps0_2, hostOps0_3, hostOps0_4, List.flatten_cons, List.flatten_nil, List.append_nil, List.cons_append, List.nil_append]
  entry_read
  rfl

/-- The first table holds the first staged row of every block. -/
theorem tbl_starts : tbl m 0 = fun i => lit1 (S16.rowMajor i) := V_starts m 0

/-- The second table holds the configuration of every block. -/
theorem tbl_configs : tbl m 1 = fun i => lit2 (S16.rowMajor i) := V_configs m 0

/-- Both tables are read at the second grid coordinate. -/
theorem off1_val (i : grid0.Coords) : k0_off1 i 0 = (i 1).val := by
  have : (i 1).val < 16 := (i 1).isLt
  show (BitVec.ofNat 32 (i 1).val).toNat = (i 1).val
  rw [BitVec.toNat_ofNat]
  exact Nat.mod_eq_of_lt (by omega)

/-- The bias table's block index is the word of the second table. -/
theorem config_at (i : grid0.Coords) : cc0_transform_5 (F := F) k0_off1_inb numel1_S1 (tbl m) i 0 = (lit2 (i 1)).toNat := by
  refine congrArg BitVec.toNat ?_
  refine (congrFun (tbl_configs m) _).trans (congrArg lit2 (Fin.ext ((Shape.rowMajor_val_one _).trans ?_)))
  exact off1_val i

/-- A word of the second table is at most 2. -/
theorem lit2_le (k : Fin 16) : (lit2 k).toNat ≤ 2 := by
  revert k; decide +kernel

/-- The side condition of the first table's word holds of every word the table has. -/
theorem lit1_chk (k : Fin 16) : k0_chk1 (lit1 k) := by
  revert k; decide +kernel

/-- The word read from the first table at a grid point. -/
theorem start_at (i : grid0.Coords) (h : k0_off1 i 0 < 16) : View.read (Elt F) (View.whole main_c_0) (tbl m 0) (ix1 ⟨k0_off1 i 0, h⟩) = lit1 (i 1) := by
  refine (congrFun (tbl_starts m) _).trans (congrArg lit1 (Fin.ext ((Shape.rowMajor_val_one _).trans ?_)))
  exact off1_val i

/-- Every bias block lies inside the bias tables. -/
theorem ok : Ok m := by
  intro i
  refine ⟨fun a => ?_, Or.inl rfl⟩
  have h := lit2_le (i 1)
  match a with
  | ⟨0, _⟩ =>
    show (cc0_transform_5 (F := F) k0_off1_inb numel1_S1 (tbl m) i 0 + 1) * 1 ≤ 3
    rw [config_at]
    omega
  | ⟨1, _⟩ => exact le_refl _
  | ⟨2, _⟩ => exact le_refl _
  | ⟨3, _⟩ => exact le_refl _

/-- Every group's staged keys lie inside the image. -/
theorem hyps : Hyps m (ok m) := Hyps.of fun c t => by
  have e : tbM0_0.view.readAt (Elt F) (Rect.unit (s := S16) (k0_off1 (grid0.coords t)) S1.size (k0_off1_inb (grid0.coords t))).toLoadRect (tbl m 0) (Shape.Idx.first (numel1_S1.symm ▸ Nat.one_pos)) = lit1 (grid0.coords t 1) := by
    refine (congrFun (tbl_starts m) _).trans (congrArg lit1 (Fin.ext ((Shape.rowMajor_val_one _).trans ?_)))
    exact off1_val _
  show k0_chk1 _
  rw [e]
  exact lit1_chk _

end Cert.KernelIdeal.Gen

end
-- ==== Proof.AttnValue.lean ====
/- The attention kernel's run: the result array it leaves, and its arguments untouched. -/
module

public import proofs.«01_k».proof.Proof.AttnTables

@[expose] public section

set_option maxRecDepth 16384

noncomputable section

namespace Cert.KernelIdeal.Gen

open Idealize.ShloMosaic Idealize.ShloMosaic.TcCoe Idealize.SL.Sem

/-- Every run ends with the result array its blocks add up to and with the arguments as they were. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v221) = (dats m (ok m) (hyps m) 0 c).arrAt 6 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 6, h.2 c⟩) (θ_run_and (run_main m g (ok m) (hyps m)) (unchanged m g (ok m) (hyps m)))

end Cert.KernelIdeal.Gen

end
-- ==== Proof.AttnWords.lean ====
module

public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.ReferenceIdeal.Read

open Idealize.ShloMosaic Idealize.ShloMosaic.TcCoe

/-- The words of the window positions: key `16 a + e` lies `64 a + e` tokens after the window's first token. -/
theorem key_words (j : Fin 128) : val_main_v28 (F := Ideal) (ix1 j) = BitVec.ofNat 32 (64 * (j.val / 16) + j.val % 16) := by
  revert j; decide +kernel

/-- The bias offset of each key of a window, counted from the window's first. -/
theorem key_offs (j : Fin 128) : val_main_v49 (F := Ideal) (ix1 j) = BitVec.ofNat 32 (31 * (j.val / 16) + j.val % 16) := by
  revert j; decide +kernel

/-- Rows gathered by token: where the table of words holds token `p`, the result is token `p`'s row. -/
theorem gather_tok {α : Type} (x : S8x4096x512.Idx → α) (idx : IVec S4096x128x1 32) (b : Fin 8) (t : Fin 4096) (j : Fin 128) (l : Fin 512) (p : Fin 4096)
    (hp : idx (ix3 t j 0) = BitVec.ofNat 32 p.val) :
    Host.gather gather_S8x4096x512_S4096x128x1_S8x4096x128x512_03_1_n_n_1_2_81512 x idx (ix4 b t j l) = x (ix3 b p l) := by
  unfold Host.gather
  refine congrArg x (funext fun a => Fin.ext ?_)
  match a with
  | ⟨0, _⟩ => exact (Nat.zero_add _)
  | ⟨1, _⟩ =>
    refine Eq.trans (b := min (idx (ix3 t j 0)).toInt.toNat (4096 - 1)) (congrArg (fun z => min (idx z).toInt.toNat (4096 - 1)) (funext fun c => ?_)) ?_
    · match c with
      | ⟨0, _⟩ => rfl
      | ⟨1, _⟩ => rfl
      | ⟨2, _⟩ => rfl
    · rw [hp, StableHlo.Predicate.toInt_ofNat_small _ (by omega)]
      show min p.val (4096 - 1) = p.val
      omega
  | ⟨2, _⟩ => exact (Nat.zero_add _)

/-- The bias gathered by its offset: where the table of words holds offset `p`, the result is the bias there. -/
theorem gather_off {α : Type} (x : S8x465.Idx → α) (idx : IVec S4096x128x1 32) (h : Fin 8) (t : Fin 4096) (j : Fin 128) (p : Fin 465)
    (hp : idx (ix3 t j 0) = BitVec.ofNat 32 p.val) :
    Host.gather gather_S8x465_S4096x128x1_S8x4096x128_0_1_n_n_1_2_81 x idx (ix3 h t j) = x (ix2 h p) := by
  unfold Host.gather
  refine congrArg x (funext fun a => Fin.ext ?_)
  match a with
  | ⟨0, _⟩ => exact (Nat.zero_add _)
  | ⟨1, _⟩ =>
    refine Eq.trans (b := min (idx (ix3 t j 0)).toInt.toNat (465 - 1)) (congrArg (fun z => min (idx z).toInt.toNat (465 - 1)) (funext fun c => ?_)) ?_
    · match c with
      | ⟨0, _⟩ => rfl
      | ⟨1, _⟩ => rfl
      | ⟨2, _⟩ => rfl
    · rw [hp, StableHlo.Predicate.toInt_ofNat_small _ (by omega)]
      show min p.val (465 - 1) = p.val
      omega

end Cert.ReferenceIdeal.Read

end
-- ==== Proof.AttnTokens.lean ====
module

public import proofs.«01_k».proof.Proof.Gen.ReferenceIdeal.Read
public import Idealize.ShloMosaic.Lib.Pointwise

@[expose] public section

set_option maxRecDepth 16384

noncomputable section

namespace Cert.ReferenceIdeal.Read

open Idealize.ShloMosaic Idealize.ShloMosaic.TcCoe

/-- The words of the windows' first tokens: the query in image row `t / 64` and column `t % 64` sees 8 rows and 16 columns, kept inside the image. -/
theorem token_words (t : Fin 4096) : val_main_v24 (F := Ideal) (ix1 t) = BitVec.ofNat 32 (64 * min (t.val / 64 - 4) 56 + min (t.val % 64 - 8) 48) := by
  revert t; decide +kernel

end Cert.ReferenceIdeal.Read

end
-- ==== Proof.AttnOffsets.lean ====
module

public import proofs.«01_k».proof.Proof.Gen.ReferenceIdeal.Read
public import Idealize.ShloMosaic.Lib.Pointwise

@[expose] public section

set_option maxRecDepth 16384

noncomputable section

namespace Cert.ReferenceIdeal.Read

open Idealize.ShloMosaic Idealize.ShloMosaic.TcCoe

/-- The words of the windows' first bias offsets. -/
theorem offset_words (t : Fin 4096) : val_main_v45 (F := Ideal) (ix1 t) = BitVec.ofNat 32 (31 * (min (t.val / 64 - 4) 56 + 7 - t.val / 64) + (min (t.val % 64 - 8) 48 + 15 - t.val % 64)) := by
  revert t; decide +kernel

end Cert.ReferenceIdeal.Read

end
-- ==== Proof.AttnScores.lean ====
module

public import proofs.«01_k».proof.Proof.AttnWords
public import proofs.«01_k».proof.Proof.AttnTokens
public import proofs.«01_k».proof.Proof.AttnOffsets

@[expose] public section

set_option maxRecDepth 16384

noncomputable section

namespace Cert.ReferenceIdeal.Read

open Idealize.ShloMosaic Idealize.ShloMosaic.TcCoe

/-- The token of key `j` of the window of query token `t`. -/
def winTok (t : Fin 4096) (j : Fin 128) : Fin 4096 :=
  ⟨64 * min (t.val / 64 - 4) 56 + min (t.val % 64 - 8) 48 + (64 * (j.val / 16) + j.val % 16), by omega⟩

/-- The row of the bias at key `j` of the window of query token `t`. -/
def winRow (t : Fin 4096) (j : Fin 128) : Fin 15 := ⟨min (t.val / 64 - 4) 56 + 7 - t.val / 64 + j.val / 16, by omega⟩

/-- The column of the bias at key `j` of the window of query token `t`. -/
def winCol (t : Fin 4096) (j : Fin 128) : Fin 31 := ⟨min (t.val % 64 - 8) 48 + 15 - t.val % 64 + j.val % 16, by omega⟩

/-- The words of the window tokens. -/
theorem win_words (t : Fin 4096) (j : Fin 128) : val_main_v32 (F := Ideal) (ix2 t j) = BitVec.ofNat 32 (winTok t j).val := by
  rw [val_main_v32_apply, val_main_v30_apply, val_main_v31_apply, val_main_v25_apply, val_main_v29_apply]
  refine (congrArg₂ IntOp.addi ((congrArg (val_main_v24 (F := Ideal)) (a₂ := ix1 t) (funext fun a => match a with | ⟨0, _⟩ => rfl)).trans (token_words t))
    ((congrArg (val_main_v28 (F := Ideal)) (a₂ := ix1 j) (funext fun a => match a with | ⟨0, _⟩ => rfl)).trans (key_words j))).trans ?_
  exact (BitVec.ofNat_add _ _).symm

/-- The words of the window's bias offsets. -/
theorem off_words (t : Fin 4096) (j : Fin 128) : val_main_v53 (F := Ideal) (ix2 t j) = BitVec.ofNat 32 (31 * (winRow t j).val + (winCol t j).val) := by
  rw [val_main_v53_apply, val_main_v51_apply, val_main_v52_apply, val_main_v46_apply, val_main_v50_apply]
  refine (congrArg₂ IntOp.addi ((congrArg (val_main_v45 (F := Ideal)) (a₂ := ix1 t) (funext fun a => match a with | ⟨0, _⟩ => rfl)).trans (offset_words t))
    ((congrArg (val_main_v49 (F := Ideal)) (a₂ := ix1 j) (funext fun a => match a with | ⟨0, _⟩ => rfl)).trans (key_offs j))).trans ?_
  refine (BitVec.ofNat_add _ _).symm.trans (congrArg (BitVec.ofNat 32) ?_)
  show _ = 31 * (min (t.val / 64 - 4) 56 + 7 - t.val / 64 + j.val / 16) + (min (t.val % 64 - 8) 48 + 15 - t.val % 64 + j.val % 16)
  omega

/-- A word that is not negative is read as it is. -/
theorem wrap_word (p : ℕ) (hp : p < 2 ^ 31) (a : BitVec 32) (x : BitVec 32) (hx : x = BitVec.ofNat 32 p) : Scalar.select (IntOp.cmpi .slt x 0#32) a x = BitVec.ofNat 32 p := by
  rw [Routing.wrap_of_lt x a (by rw [hx, BitVec.toNat_ofNat]; exact lt_of_le_of_lt (Nat.mod_le _ _) hp), hx]

/-- The token numbers by which the reference gathers the keys. -/
theorem tok_k (t : Fin 4096) (j : Fin 128) : val_main_v60 (F := Ideal) (ix3 t j 0) = BitVec.ofNat 32 (winTok t j).val := by
  rw [val_main_v60_apply]
  refine (congrArg (val_main_v59 (F := Ideal)) (a₂ := ix2 t j) (funext fun a => match a with | ⟨0, _⟩ => rfl | ⟨1, _⟩ => rfl)).trans ?_
  exact wrap_word _ (by have := (winTok t j).isLt; omega) _ _ (win_words t j)

/-- The token numbers by which the reference gathers the values. -/
theorem tok_v (t : Fin 4096) (j : Fin 128) : val_main_v69 (F := Ideal) (ix3 t j 0) = BitVec.ofNat 32 (winTok t j).val := by
  rw [val_main_v69_apply]
  refine (congrArg (val_main_v68 (F := Ideal)) (a₂ := ix2 t j) (funext fun a => match a with | ⟨0, _⟩ => rfl | ⟨1, _⟩ => rfl)).trans ?_
  exact wrap_word _ (by have := (winTok t j).isLt; omega) _ _ (win_words t j)

/-- The offsets by which the reference gathers the bias. -/
theorem off_b (t : Fin 4096) (j : Fin 128) : val_main_v78 (F := Ideal) (ix3 t j 0) = BitVec.ofNat 32 (31 * (winRow t j).val + (winCol t j).val) := by
  rw [val_main_v78_apply]
  refine (congrArg (val_main_v77 (F := Ideal)) (a₂ := ix2 t j) (funext fun a => match a with | ⟨0, _⟩ => rfl | ⟨1, _⟩ => rfl)).trans ?_
  exact wrap_word _ (by have := (winRow t j).isLt; have := (winCol t j).isLt; omega) _ _ (off_words t j)

variable (x0 : FVec Ideal S8x4096x1536 .bf16) (x1 : FVec Ideal S8x256x1536 .bf16) (x2 : FVec Ideal S8x15x31 .f32)

/-- The queries by head. -/
theorem q_at (b : Fin 8) (t : Fin 4096) (h : Fin 8) (d : Fin 64) : val_main_v3 (F := Ideal) x0 (ix4 b t h d) = x0 (ix3 b t ⟨64 * h.val + d.val, by omega⟩) := by
  pointwise [val_main_v3, val_main_v2, val_main_v0]
  simp only [Nat.mul_comm h.val 64]

/-- The context keys by head. -/
theorem kc_at (b : Fin 8) (c : Fin 256) (h : Fin 8) (d : Fin 64) : val_main_v5 (F := Ideal) x1 (ix4 b c h d) = x1 (ix3 b c ⟨512 + (64 * h.val + d.val), by omega⟩) := by
  pointwise [val_main_v5, val_main_v4, val_main_v1]
  simp only [Nat.mul_comm h.val 64]

/-- The context values by head. -/
theorem vc_at (b : Fin 8) (c : Fin 256) (h : Fin 8) (d : Fin 64) : val_main_v7 (F := Ideal) x1 (ix4 b c h d) = x1 (ix3 b c ⟨1024 + (64 * h.val + d.val), by omega⟩) := by
  pointwise [val_main_v7, val_main_v6, val_main_v1]
  simp only [Nat.mul_comm h.val 64]

/-- The keys of the window, by head. -/
theorem k_at (b : Fin 8) (t : Fin 4096) (j : Fin 128) (h : Fin 8) (d : Fin 64) :
    val_main_v62 (F := Ideal) x0 (ix5 b t j h d) = x0 (ix3 b (winTok t j) ⟨512 + (64 * h.val + d.val), by omega⟩) := by
  have e : val_main_v62 (F := Ideal) x0 (ix5 b t j h d) = val_main_v61 (F := Ideal) x0 (ix4 b t j ⟨64 * h.val + d.val, by omega⟩) := by
    unfold val_main_v62
    generalize val_main_v61 (F := Ideal) x0 = y
    pointwise
    simp only [Nat.mul_comm h.val 64]
  rw [e]
  refine (gather_tok _ _ b t j _ (winTok t j) (tok_k t j)).trans ?_
  pointwise [val_main_v54, val_main_v0]

/-- The values of the window, by head. -/
theorem v_at (b : Fin 8) (t : Fin 4096) (j : Fin 128) (h : Fin 8) (d : Fin 64) :
    val_main_v71 (F := Ideal) x0 (ix5 b t j h d) = x0 (ix3 b (winTok t j) ⟨1024 + (64 * h.val + d.val), by omega⟩) := by
  have e : val_main_v71 (F := Ideal) x0 (ix5 b t j h d) = val_main_v70 (F := Ideal) x0 (ix4 b t j ⟨64 * h.val + d.val, by omega⟩) := by
    unfold val_main_v71
    generalize val_main_v70 (F := Ideal) x0 = y
    pointwise
    simp only [Nat.mul_comm h.val 64]
  rw [e]
  refine (gather_tok _ _ b t j _ (winTok t j) (tok_v t j)).trans ?_
  pointwise [val_main_v63, val_main_v0]

/-- The bias of the window. -/
theorem bias_at (h : Fin 8) (t : Fin 4096) (j : Fin 128) : val_main_v79 (F := Ideal) x2 (ix3 h t j) = x2 (ix3 h (winRow t j) (winCol t j)) := by
  have h1 := (winRow t j).isLt
  have h2 := (winCol t j).isLt
  refine (gather_off _ _ h t j ⟨31 * (winRow t j).val + (winCol t j).val, by omega⟩ (off_b t j)).trans ?_
  rw [val_main_v72_apply]
  refine congrArg x2 (funext fun a => Fin.ext ?_)
  match a with
  | ⟨0, _⟩ => show (h.val * 465 + (31 * (winRow t j).val + (winCol t j).val)) / 465 = h.val; omega
  | ⟨1, _⟩ => show (h.val * 465 + (31 * (winRow t j).val + (winCol t j).val)) / 31 % 15 = (winRow t j).val; omega
  | ⟨2, _⟩ => show (h.val * 465 + (31 * (winRow t j).val + (winCol t j).val)) % 31 = (winCol t j).val; omega

/-- The score of query token `t` with key `j` of its window, head `h`. -/
def winScore (b : Fin 8) (h : Fin 8) (t : Fin 4096) (j : Fin 128) : EReal :=
  (∑ d : Fin 64, x0 (ix3 b t ⟨64 * h.val + d.val, by omega⟩) * x0 (ix3 b (winTok t j) ⟨512 + (64 * h.val + d.val), by omega⟩)) + x2 (ix3 h (winRow t j) (winCol t j))

/-- The score of query token `t` with context key `c`, head `h`. -/
def ctxScore (b : Fin 8) (h : Fin 8) (t : Fin 4096) (c : Fin 256) : EReal :=
  ∑ d : Fin 64, x0 (ix3 b t ⟨64 * h.val + d.val, by omega⟩) * x1 (ix3 b c ⟨512 + (64 * h.val + d.val), by omega⟩)

/-- The reference's window scores. -/
theorem win_at (b h : Fin 8) (t : Fin 4096) (j : Fin 128) : val_main_v83 (F := Ideal) x0 x2 (ix4 b h t j) = winScore x0 x2 b h t j := by
  have e1 : val_main_v80 (F := Ideal) x0 (ix4 b h t j) = ∑ d : Fin 64, x0 (ix3 b t ⟨64 * h.val + d.val, by omega⟩) * x0 (ix3 b (winTok t j) ⟨512 + (64 * h.val + d.val), by omega⟩) := by
    rw [val_main_v80_apply]
    refine Finset.sum_congr rfl fun d _ => congrArg₂ (· * ·) ?_ ?_
    · exact (congrArg (val_main_v3 (F := Ideal) x0) (a₂ := ix4 b t h d) (funext fun a => match a with | ⟨0, _⟩ => rfl | ⟨1, _⟩ => rfl | ⟨2, _⟩ => rfl | ⟨3, _⟩ => rfl)).trans (q_at x0 b t h d)
    · exact (congrArg (val_main_v62 (F := Ideal) x0) (a₂ := ix5 b t j h d) (funext fun a => match a with | ⟨0, _⟩ => rfl | ⟨1, _⟩ => rfl | ⟨2, _⟩ => rfl | ⟨3, _⟩ => rfl | ⟨4, _⟩ => rfl)).trans (k_at x0 b t j h d)
  have e2 : val_main_v82 (F := Ideal) x2 (ix4 b h t j) = x2 (ix3 h (winRow t j) (winCol t j)) := by
    have e3 : idx_main_v81 (idx_main_v82 (ix4 b h t j)) = ix3 h t j := funext fun a => match a with | ⟨0, _⟩ => rfl | ⟨1, _⟩ => rfl | ⟨2, _⟩ => rfl
    rw [val_main_v82_apply, val_main_v81_apply, e3, bias_at]
  rw [val_main_v83_apply, e1, e2]
  rfl

/-- The reference's context scores. -/
theorem ctx_at (b h : Fin 8) (t : Fin 4096) (c : Fin 256) : val_main_v84 (F := Ideal) x0 x1 (ix4 b h t c) = ctxScore x0 x1 b h t c := by
  rw [val_main_v84_apply]
  unfold ctxScore
  refine Finset.sum_congr rfl fun d _ => congrArg₂ (· * ·) ?_ ?_
  · exact (congrArg (val_main_v3 (F := Ideal) x0) (a₂ := ix4 b t h d) (funext fun a => match a with | ⟨0, _⟩ => rfl | ⟨1, _⟩ => rfl | ⟨2, _⟩ => rfl | ⟨3, _⟩ => rfl)).trans (q_at x0 b t h d)
  · exact (congrArg (val_main_v5 (F := Ideal) x1) (a₂ := ix4 b c h d) (funext fun a => match a with | ⟨0, _⟩ => rfl | ⟨1, _⟩ => rfl | ⟨2, _⟩ => rfl | ⟨3, _⟩ => rfl)).trans (kc_at x1 b c h d)

end Cert.ReferenceIdeal.Read

end
-- ==== Proof.AttnRef.lean ====
module

public import proofs.«01_k».proof.Proof.AttnScores

@[expose] public section

set_option maxRecDepth 16384

noncomputable section

namespace Cert.ReferenceIdeal.Read

open Idealize.ShloMosaic Idealize.ShloMosaic.TcCoe

variable (x0 : FVec Ideal S8x4096x1536 .bf16) (x1 : FVec Ideal S8x256x1536 .bf16) (x2 : FVec Ideal S8x15x31 .f32)

/-- The row of scores begins with the window. -/
theorem row_win (b h : Fin 8) (t : Fin 4096) (j : Fin 128) : val_main_v85 (F := Ideal) x0 x1 x2 (ix4 b h t ⟨j.val, by omega⟩) = winScore x0 x2 b h t j := by
  rw [← win_at x0 x2 b h t j]
  unfold val_main_v85
  generalize val_main_v83 (F := Ideal) x0 x2 = y
  generalize val_main_v84 (F := Ideal) x0 x1 = z
  pointwise

/-- The row of scores ends with the context. -/
theorem row_ctx (b h : Fin 8) (t : Fin 4096) (c : Fin 256) : val_main_v85 (F := Ideal) x0 x1 x2 (ix4 b h t ⟨128 + c.val, by omega⟩) = ctxScore x0 x1 b h t c := by
  rw [← ctx_at x0 x1 b h t c]
  unfold val_main_v85
  generalize val_main_v83 (F := Ideal) x0 x2 = y
  generalize val_main_v84 (F := Ideal) x0 x1 = z
  pointwise

/-- The word of the f32 minus infinity. -/
theorem ninf : Ideal.ofBits .f32 0xFF800000#32 = ⊥ := by
  simp [Ideal.ofBits, Ideal.ieee]

/-- A supremum over 384 keys is the one over the window and the one over the context. -/
theorem sup_split (f : Fin 384 → EReal) : Finset.univ.sup f = max (Finset.univ.sup fun j : Fin 128 => f ⟨j.val, by omega⟩) (Finset.univ.sup fun c : Fin 256 => f ⟨128 + c.val, by omega⟩) := by
  refine le_antisymm (Finset.sup_le fun k _ => ?_) (max_le (Finset.sup_le fun j _ => Finset.le_sup (f := f) (Finset.mem_univ _)) (Finset.sup_le fun j _ => Finset.le_sup (f := f) (Finset.mem_univ _)))
  by_cases hk : k.val < 128
  · exact le_max_of_le_left (Finset.le_sup (f := fun j : Fin 128 => f ⟨j.val, by omega⟩) (Finset.mem_univ ⟨k.val, hk⟩))
  · refine le_max_of_le_right (le_trans (le_of_eq ?_) (Finset.le_sup (f := fun c : Fin 256 => f ⟨128 + c.val, by omega⟩) (Finset.mem_univ ⟨k.val - 128, by omega⟩)))
    exact congrArg f (Fin.ext (by show k.val = 128 + (k.val - 128); omega))

/-- A sum over 384 keys is the one over the window and the one over the context. -/
theorem sum_split (f : Fin 384 → EReal) : ∑ k, f k = (∑ j : Fin 128, f ⟨j.val, by omega⟩) + ∑ c : Fin 256, f ⟨128 + c.val, by omega⟩ :=
  Fin.sum_univ_add (a := 128) (b := 256) f

/-- The largest score of a row. -/
def rowMax (b h : Fin 8) (t : Fin 4096) : EReal := max (Finset.univ.sup (winScore x0 x2 b h t)) (Finset.univ.sup (ctxScore x0 x1 b h t))

/-- The sum of a row's exponentials. -/
def rowSum (b h : Fin 8) (t : Fin 4096) : EReal :=
  (∑ j, Ideal.exp (winScore x0 x2 b h t j - rowMax x0 x1 x2 b h t)) + ∑ c, Ideal.exp (ctxScore x0 x1 b h t c - rowMax x0 x1 x2 b h t)

/-- The reference's largest score. -/
theorem max_at (b h : Fin 8) (t : Fin 4096) : val_main_v88 (F := Ideal) x0 x1 x2 (ix3 b h t) = rowMax x0 x1 x2 b h t := by
  have e : val_main_v86 (F := Ideal) x0 x1 x2 (ix3 b h t) = Finset.univ.sup fun k : Fin 384 => val_main_v85 (F := Ideal) x0 x1 x2 (ix4 b h t k) := by
    unfold val_main_v86
    generalize val_main_v85 (F := Ideal) x0 x1 x2 = y
    refine Eq.trans (b := Finset.fold max (Ideal.ofBits .f32 0xFF800000#32) (fun k : Fin 384 => y (ix4 b h t k)) Finset.univ) ?_ (by rw [ninf]; rfl)
    pointwise [val_main_cst]
  rw [val_main_v88_apply, e, sup_split]
  simp only [row_win, row_ctx]
  refine Eq.trans (b := max (Ideal.ofBits .f32 0xFF800000#32) (rowMax x0 x1 x2 b h t)) (congrArg₂ max (val_main_v87_apply _) rfl) ?_
  rw [ninf]
  exact max_eq_right bot_le

/-- The reference's exponentials. -/
theorem exp_at (b h : Fin 8) (t : Fin 4096) (k : Fin 384) :
    val_main_v92 (F := Ideal) x0 x1 x2 (ix4 b h t k) = Ideal.exp (val_main_v85 (F := Ideal) x0 x1 x2 (ix4 b h t k) - rowMax x0 x1 x2 b h t) := by
  have e : idx_main_v89 (idx_main_v90 (ix4 b h t k)) = ix3 b h t := funext fun a => match a with | ⟨0, _⟩ => rfl | ⟨1, _⟩ => rfl | ⟨2, _⟩ => rfl
  have e' : val_main_v90 (F := Ideal) x0 x1 x2 (ix4 b h t k) = rowMax x0 x1 x2 b h t := by
    rw [val_main_v90_apply, val_main_v89_apply, e, max_at]
  rw [val_main_v92_apply, val_main_v91_apply, e']
  rfl

/-- The reference's sum of exponentials. -/
theorem den_at (b h : Fin 8) (t : Fin 4096) : val_main_v93 (F := Ideal) x0 x1 x2 (ix3 b h t) = rowSum x0 x1 x2 b h t := by
  have e : ∀ k, idx_main_v93 (ix3 b h t) k = ix4 b h t k := fun k => funext fun a => match a with | ⟨0, _⟩ => rfl | ⟨1, _⟩ => rfl | ⟨2, _⟩ => rfl | ⟨3, _⟩ => rfl
  have e0 : val_main_cst_24 (F := Ideal) ix0 = 0 := by pointwise [val_main_cst_24]
  rw [val_main_v93_apply]
  simp only [e, exp_at]
  rw [sum_split]
  simp only [row_win, row_ctx]
  refine (congrArg (· + rowSum x0 x1 x2 b h t) ?_).trans (zero_add _)
  pointwise [val_main_cst_24]

/-- The reference's weights. -/
theorem weight_at (b h : Fin 8) (t : Fin 4096) (k : Fin 384) :
    val_main_v96 (F := Ideal) x0 x1 x2 (ix4 b h t k) = Ideal.div (Ideal.exp (val_main_v85 (F := Ideal) x0 x1 x2 (ix4 b h t k) - rowMax x0 x1 x2 b h t)) (rowSum x0 x1 x2 b h t) := by
  have e : idx_main_v94 (idx_main_v95 (ix4 b h t k)) = ix3 b h t := funext fun a => match a with | ⟨0, _⟩ => rfl | ⟨1, _⟩ => rfl | ⟨2, _⟩ => rfl
  have e' : val_main_v95 (F := Ideal) x0 x1 x2 (ix4 b h t k) = rowSum x0 x1 x2 b h t := by
    rw [val_main_v95_apply, val_main_v94_apply, e, den_at]
  rw [val_main_v96_apply, exp_at, e']
  rfl

/-- The attention of token `t`, head `h`, channel `d`: the softmax-weighted mean of the values of the window and of the context. -/
def attend (b : Fin 8) (t : Fin 4096) (h : Fin 8) (d : Fin 64) : EReal :=
  (∑ j, Ideal.div (Ideal.exp (winScore x0 x2 b h t j - rowMax x0 x1 x2 b h t)) (rowSum x0 x1 x2 b h t) * x0 (ix3 b (winTok t j) ⟨1024 + (64 * h.val + d.val), by omega⟩))
    + ∑ c, Ideal.div (Ideal.exp (ctxScore x0 x1 b h t c - rowMax x0 x1 x2 b h t)) (rowSum x0 x1 x2 b h t) * x1 (ix3 b c ⟨1024 + (64 * h.val + d.val), by omega⟩)

/-- The window's part of the reference. -/
theorem window_part (b : Fin 8) (t : Fin 4096) (h : Fin 8) (d : Fin 64) : val_main_v98 (F := Ideal) x0 x1 x2 (ix4 b t h d)
    = ∑ j, Ideal.div (Ideal.exp (winScore x0 x2 b h t j - rowMax x0 x1 x2 b h t)) (rowSum x0 x1 x2 b h t) * x0 (ix3 b (winTok t j) ⟨1024 + (64 * h.val + d.val), by omega⟩) := by
  have e1 : ∀ j, idx_main_v97 (lidx_main_v98 (ix4 b t h d) j) = ix4 b h t ⟨j.val, by omega⟩ := fun j => funext fun a => match a with | ⟨0, _⟩ => rfl | ⟨1, _⟩ => rfl | ⟨2, _⟩ => rfl | ⟨3, _⟩ => rfl
  have e2 : ∀ j, ridx_main_v98 (ix4 b t h d) j = ix5 b t j h d := fun j => funext fun a => match a with | ⟨0, _⟩ => rfl | ⟨1, _⟩ => rfl | ⟨2, _⟩ => rfl | ⟨3, _⟩ => rfl | ⟨4, _⟩ => rfl
  rw [val_main_v98_apply]
  simp only [val_main_v97_apply, e1, e2, weight_at, row_win, v_at]

/-- The context's part of the reference. -/
theorem context_part (b : Fin 8) (t : Fin 4096) (h : Fin 8) (d : Fin 64) : val_main_v101 (F := Ideal) x0 x1 x2 (ix4 b t h d)
    = ∑ c, Ideal.div (Ideal.exp (ctxScore x0 x1 b h t c - rowMax x0 x1 x2 b h t)) (rowSum x0 x1 x2 b h t) * x1 (ix3 b c ⟨1024 + (64 * h.val + d.val), by omega⟩) := by
  have e0 : idx_main_v101 (ix4 b t h d) = ix4 b h d t := funext fun a => match a with | ⟨0, _⟩ => rfl | ⟨1, _⟩ => rfl | ⟨2, _⟩ => rfl | ⟨3, _⟩ => rfl
  have e1 : ∀ c, lidx_main_v100 (ix4 b h d t) c = ix4 b c h d := fun c => funext fun a => match a with | ⟨0, _⟩ => rfl | ⟨1, _⟩ => rfl | ⟨2, _⟩ => rfl | ⟨3, _⟩ => rfl
  have e2 : ∀ c, idx_main_v99 (ridx_main_v100 (ix4 b h d t) c) = ix4 b h t ⟨128 + c.val, by omega⟩ := fun c => funext fun a => match a with | ⟨0, _⟩ => rfl | ⟨1, _⟩ => rfl | ⟨2, _⟩ => rfl | ⟨3, _⟩ => rfl
  rw [val_main_v101_apply, e0, val_main_v100_apply]
  simp only [val_main_v99_apply, e1, e2, weight_at, row_ctx, vc_at]
  exact Finset.sum_congr rfl fun c _ => mul_comm _ _

/-- The reference, by head. -/
theorem heads_at (b : Fin 8) (t : Fin 4096) (h : Fin 8) (d : Fin 64) : val_main_v102 (F := Ideal) x0 x1 x2 (ix4 b t h d) = attend x0 x1 x2 b t h d := by
  rw [val_main_v102_apply, window_part, context_part]
  rfl

/-- The reference's result: channel `ch` belongs to head `ch / 64`. -/
theorem result_at (b : Fin 8) (t : Fin 4096) (ch : Fin 512) :
    val_main_v104 (F := Ideal) x0 x1 x2 (ix3 b t ch) = attend x0 x1 x2 b t ⟨ch.val / 64, by omega⟩ ⟨ch.val % 64, by omega⟩ := by
  rw [← heads_at]
  unfold val_main_v104 val_main_v103
  generalize val_main_v102 (F := Ideal) x0 x1 x2 = y
  pointwise

end Cert.ReferenceIdeal.Read

end
-- ==== Proof.AttnBody.lean ====
module

public import proofs.«01_k».proof.Proof.AttnRun
public import Idealize.ShloMosaic.Lib.Pipeline.ValueKit
public import Idealize.ShloMosaic.Lib.Pointwise

@[expose] public section

set_option maxRecDepth 16384

noncomputable section

namespace Cert.KernelIdeal.RefValue

open Idealize.ShloMosaic Idealize.ShloMosaic.TcCoe Cert.KernelIdeal Cert.KernelIdeal.Gen

/-- The lane numbers of a 128-lane group. -/
abbrev lanes : IVec S1x128 32 := iota .tc S1x128 32 [1] iota_S1x128_d1_w32

/-- The lanes of the first of the two heads in a group, as the kernel finds them. -/
def laneLo : IVec S1x128 1 :=
  cmpi .eq (select (andi k0_pay13 (cmpi .ne (remsi lanes (broadcast S1x128 64#32)) (broadcast S1x128 0#32))) (subi k0_pay12 (broadcast S1x128 1#32)) k0_pay12)
    (broadcast S1x128 0#32)

/-- The first mask is one on the first head's lanes of a group. -/
theorem laneLo_at : ∀ l : Fin 128, laneLo (ix2 0 l) = if l.val < 64 then 1#1 else 0#1 := by decide +kernel

/-- The second mask is one on the second head's lanes of a group. -/
theorem laneHi_at : ∀ l : Fin 128, k0_pay23 lanes (ix2 0 l) = if l.val < 64 then 0#1 else 1#1 := by decide +kernel

variable (q : FVec Ideal S256x128 .bf16) (k : FVec Ideal S768x128 .bf16) (kc : FVec Ideal S256x128 .bf16) (v : FVec Ideal S768x128 .bf16) (vc : FVec Ideal S256x128 .bf16)
  (b0 b1 : Vec Ideal S1x1x256x768 .f32)

/-- What one 128-lane group stores: the attention of its two heads, from the group's queries, keys, context keys, values, context values and the two bias planes. -/
def pairPay : FVec Ideal S1x256x128 .bf16 :=
  k0_pay29 v vc (k0_pay22 (k0_pay20 lanes q k kc v vc 64#32 k0_pay12 k0_pay13 b0) (k0_pay21 lanes q k kc 64#32 k0_pay12 k0_pay13 b0)) (k0_pay23 lanes)
    (k0_pay25 lanes q k b1) (k0_pay26 lanes q kc) (k0_pay27 lanes q k b1) (k0_pay28 lanes q kc)

/-- One softmax-weighted mean: window scores `s` over values `u`, context scores `t` over values `u'`, the weights exponentials from the common maximum. -/
def headOut (s : Fin 768 → EReal) (t : Fin 256 → EReal) (u : Fin 768 → EReal) (u' : Fin 256 → EReal) : EReal :=
  let M := max (Finset.univ.fold max ⊥ s) (Finset.univ.fold max ⊥ t)
  Ideal.div ((∑ j, Ideal.exp (s j - M) * u j) + ∑ j, Ideal.exp (t j - M) * u' j) ((∑ j, Ideal.exp (s j - M)) + ∑ j, Ideal.exp (t j - M))

/-- The word of the f32 number one. -/
theorem one_bits : Ideal.ofBits .f32 0x3F800000#32 = 1 := by
  pointwise

/-- The word of the f32 minus infinity. -/
theorem bot_bits : Ideal.ofBits .f32 0xFF800000#32 = ⊥ := by
  simp [Ideal.ofBits, Ideal.ieee]

/-- A sum over a group's lanes, the first head's and the second's apart. -/
theorem halves (f : Fin 128 → EReal) : ∑ l, f l = (∑ d : Fin 64, f ⟨d.val, by omega⟩) + ∑ d : Fin 64, f ⟨64 + d.val, by omega⟩ :=
  Fin.sum_univ_add (a := 64) (b := 64) f

/-- Under the first mask only the first head's lanes count. -/
theorem sum_lo (a b : Fin 128 → EReal) : (∑ l, a l * (if l.val < 64 then 1 else 0) * b l) = ∑ d : Fin 64, a ⟨d.val, by omega⟩ * b ⟨d.val, by omega⟩ := by
  rw [halves]
  simp

/-- Under the second mask only the second head's lanes count. -/
theorem sum_hi (a b : Fin 128 → EReal) : (∑ l, a l * (if l.val < 64 then 0 else 1) * b l) = ∑ d : Fin 64, a ⟨64 + d.val, by omega⟩ * b ⟨64 + d.val, by omega⟩ := by
  rw [halves]
  simp

/-- The first head's queries: the second head's lanes are multiplied by zero. -/
theorem qLo_at (i : Fin 256) (l : Fin 128) :
    k0_pay14 lanes q 64#32 k0_pay12 k0_pay13 (ix2 i l) = (q (ix2 i l) * (if l.val < 64 then 1 else 0) : EReal) := by
  have h := laneLo_at l
  refine (congrFun (show k0_pay14 lanes q 64#32 k0_pay12 k0_pay13 = mulf q (broadcastTo S256x128 (truncf .bf16 (select laneLo (broadcast S1x128 (Scalar.ofBits .f32 0x3F800000#32))
    (broadcast S1x128 (Scalar.ofBits .f32 0#32))) bitsLt_bf16_f32) broadcasts_S1x128_S256x128) from rfl) _).trans ?_
  generalize laneLo = z at h ⊢
  pointwise
  rw [h]
  split_ifs <;> simp [Scalar.select]

/-- The second head's queries: the first head's lanes are multiplied by zero. -/
theorem qHi_at (i : Fin 256) (l : Fin 128) :
    k0_pay24 lanes q (ix2 i l) = (q (ix2 i l) * (if l.val < 64 then 0 else 1) : EReal) := by
  have h := laneHi_at l
  refine (congrFun (show k0_pay24 lanes q = mulf q (broadcastTo S256x128 (truncf .bf16 (select (k0_pay23 lanes) (broadcast S1x128 (Scalar.ofBits .f32 0x3F800000#32))
    (broadcast S1x128 (Scalar.ofBits .f32 0#32))) bitsLt_bf16_f32) broadcasts_S1x128_S256x128) from rfl) _).trans ?_
  generalize k0_pay23 lanes = z at h ⊢
  pointwise
  rw [h]
  split_ifs <;> simp [Scalar.select]

/-- The first head's window scores. -/
theorem sLo_at (i : Fin 256) (K : Fin 768) :
    k0_pay15 lanes q k 64#32 k0_pay12 k0_pay13 b0 (ix2 i K) = ((∑ d : Fin 64, q (ix2 i ⟨d.val, by omega⟩) * k (ix2 K ⟨d.val, by omega⟩)) + b0 (ix4 0 0 i K) : EReal) := by
  refine Eq.trans ?_ (congrArg (· + (b0 (ix4 0 0 i K) : EReal)) (sum_lo (fun l => q (ix2 i l)) fun l => k (ix2 K l)))
  simp only [← qLo_at]
  generalize hz : k0_pay14 lanes q 64#32 k0_pay12 k0_pay13 = z
  unfold k0_pay15
  rw [hz]
  pointwise

/-- The first head's context scores. -/
theorem tLo_at (i j : Fin 256) :
    k0_pay16 lanes q kc 64#32 k0_pay12 k0_pay13 (ix2 i j) = (∑ d : Fin 64, q (ix2 i ⟨d.val, by omega⟩) * kc (ix2 j ⟨d.val, by omega⟩) : EReal) := by
  refine Eq.trans ?_ (sum_lo (fun l => q (ix2 i l)) fun l => kc (ix2 j l))
  simp only [← qLo_at]
  generalize hz : k0_pay14 lanes q 64#32 k0_pay12 k0_pay13 = z
  unfold k0_pay16
  rw [hz]
  pointwise

/-- The second head's window scores. -/
theorem sHi_at (i : Fin 256) (K : Fin 768) :
    k0_pay25 lanes q k b1 (ix2 i K) = ((∑ d : Fin 64, q (ix2 i ⟨64 + d.val, by omega⟩) * k (ix2 K ⟨64 + d.val, by omega⟩)) + b1 (ix4 0 0 i K) : EReal) := by
  refine Eq.trans ?_ (congrArg (· + (b1 (ix4 0 0 i K) : EReal)) (sum_hi (fun l => q (ix2 i l)) fun l => k (ix2 K l)))
  simp only [← qHi_at]
  generalize hz : k0_pay24 lanes q = z
  unfold k0_pay25
  rw [hz]
  pointwise

/-- The second head's context scores. -/
theorem tHi_at (i j : Fin 256) :
    k0_pay26 lanes q kc (ix2 i j) = (∑ d : Fin 64, q (ix2 i ⟨64 + d.val, by omega⟩) * kc (ix2 j ⟨64 + d.val, by omega⟩) : EReal) := by
  refine Eq.trans ?_ (sum_hi (fun l => q (ix2 i l)) fun l => kc (ix2 j l))
  simp only [← qHi_at]
  generalize hz : k0_pay24 lanes q = z
  unfold k0_pay26
  rw [hz]
  pointwise

/-- A group's store in terms of the scores: the kernel's own choice between the two heads. -/
theorem pair_select (i : Fin 256) (l : Fin 128) :
    pairPay q k kc v vc b0 b1 (ix3 0 i l)
      = Scalar.select (k0_pay23 lanes (ix2 0 l))
          (headOut (fun K => k0_pay25 lanes q k b1 (ix2 i K)) (fun j => k0_pay26 lanes q kc (ix2 i j)) (fun K => v (ix2 K l)) (fun j => vc (ix2 j l)))
          (headOut (fun K => k0_pay15 lanes q k 64#32 k0_pay12 k0_pay13 b0 (ix2 i K)) (fun j => k0_pay16 lanes q kc 64#32 k0_pay12 k0_pay13 (ix2 i j)) (fun K => v (ix2 K l)) (fun j => vc (ix2 j l))) := by
  unfold pairPay headOut
  rw [← bot_bits]
  generalize k0_pay23 lanes = z
  pointwise [k0_pay29, k0_pay22, k0_pay20, k0_pay21, k0_pay17, k0_pay18, k0_pay19, k0_pay27, k0_pay28]

/-- A group's store, position by position. -/
theorem pair_at (i : Fin 256) (l : Fin 128) :
    pairPay q k kc v vc b0 b1 (ix3 0 i l)
      = if l.val < 64 then headOut (fun K => (∑ d : Fin 64, q (ix2 i ⟨d.val, by omega⟩) * k (ix2 K ⟨d.val, by omega⟩)) + b0 (ix4 0 0 i K))
          (fun j => ∑ d : Fin 64, q (ix2 i ⟨d.val, by omega⟩) * kc (ix2 j ⟨d.val, by omega⟩)) (fun K => v (ix2 K l)) (fun j => vc (ix2 j l))
        else headOut (fun K => (∑ d : Fin 64, q (ix2 i ⟨64 + d.val, by omega⟩) * k (ix2 K ⟨64 + d.val, by omega⟩)) + b1 (ix4 0 0 i K))
          (fun j => ∑ d : Fin 64, q (ix2 i ⟨64 + d.val, by omega⟩) * kc (ix2 j ⟨64 + d.val, by omega⟩)) (fun K => v (ix2 K l)) (fun j => vc (ix2 j l)) := by
  rw [pair_select, laneHi_at]
  simp only [sLo_at, tLo_at, sHi_at, tHi_at]
  split_ifs <;> rfl

end Cert.KernelIdeal.RefValue

end
-- ==== Proof.AttnBlock.lean ====
module

public import proofs.«01_k».proof.Proof.AttnBody

@[expose] public section

set_option maxRecDepth 16384

noncomputable section

namespace Cert.KernelIdeal.RefValue

open Idealize.ShloMosaic Idealize.ShloMosaic.TcCoe Cert.KernelIdeal Cert.KernelIdeal.Gen

/-- The attention of head `h` at query `i` of a block, channel `ch` of the values: 768 window keys beginning at `st`, all 256 context keys. -/
def headAt (x0 : Vec Ideal S1x256x512 .bf16) (x1 x2 : Vec Ideal S1x4096x512 .bf16) (x3 x4 : Vec Ideal S1x256x512 .bf16) (x5 : Vec Ideal S1x8x256x768 .f32)
    (st : ℕ) (hst : st + 768 ≤ 4096) (i : Fin 256) (h : Fin 8) (ch : Fin 512) : EReal :=
  headOut (fun K => (∑ d : Fin 64, x0 (ix3 0 i ⟨64 * h.val + d.val, by omega⟩) * x1 (ix3 0 ⟨st + K.val, by omega⟩ ⟨64 * h.val + d.val, by omega⟩)) + x5 (ix4 0 h i K))
    (fun j => ∑ d : Fin 64, x0 (ix3 0 i ⟨64 * h.val + d.val, by omega⟩) * x3 (ix3 0 j ⟨64 * h.val + d.val, by omega⟩))
    (fun K => x2 (ix3 0 ⟨st + K.val, by omega⟩ ch)) (fun j => x4 (ix3 0 j ch))

/-- Group `g` of 128 lanes stores the attention of heads `2 g` and `2 g + 1`. -/
theorem group_at (x0 : Vec Ideal S1x256x512 .bf16) (x1 x2 : Vec Ideal S1x4096x512 .bf16) (x3 x4 : Vec Ideal S1x256x512 .bf16) (x5 : Vec Ideal S1x8x256x768 .f32)
    (st : ℕ) (hst : st + 768 ≤ 4096) (g : Fin 4) (q : FVec Ideal S256x128 .bf16) (k : FVec Ideal S768x128 .bf16) (kc : FVec Ideal S256x128 .bf16) (v : FVec Ideal S768x128 .bf16)
    (vc : FVec Ideal S256x128 .bf16) (b0 b1 : Vec Ideal S1x1x256x768 .f32)
    (hq : ∀ i l, q (ix2 i l) = x0 (ix3 0 i ⟨128 * g.val + l.val, by omega⟩))
    (hk : ∀ K l, k (ix2 K l) = x1 (ix3 0 ⟨st + K.val, by omega⟩ ⟨128 * g.val + l.val, by omega⟩))
    (hkc : ∀ i l, kc (ix2 i l) = x3 (ix3 0 i ⟨128 * g.val + l.val, by omega⟩))
    (hv : ∀ K l, v (ix2 K l) = x2 (ix3 0 ⟨st + K.val, by omega⟩ ⟨128 * g.val + l.val, by omega⟩))
    (hvc : ∀ i l, vc (ix2 i l) = x4 (ix3 0 i ⟨128 * g.val + l.val, by omega⟩))
    (hb0 : ∀ i K, b0 (ix4 0 0 i K) = x5 (ix4 0 ⟨2 * g.val, by omega⟩ i K)) (hb1 : ∀ i K, b1 (ix4 0 0 i K) = x5 (ix4 0 ⟨2 * g.val + 1, by omega⟩ i K))
    (i : Fin 256) (l : Fin 128) (h : Fin 8) (ch : Fin 512) (hch : ch.val = 128 * g.val + l.val) (hh : h.val = ch.val / 64) :
    pairPay q k kc v vc b0 b1 (ix3 0 i l) = headAt x0 x1 x2 x3 x4 x5 st hst i h ch := by
  rw [pair_at]
  simp only [hq, hk, hkc, hv, hvc, hb0, hb1]
  have ec : (⟨128 * g.val + l.val, by omega⟩ : Fin 512) = ch := Fin.ext hch.symm
  by_cases hl : l.val < 64
  · have eh : (⟨2 * g.val, by omega⟩ : Fin 8) = h := Fin.ext (by show 2 * g.val = h.val; omega)
    have e : ∀ d : Fin 64, (⟨128 * g.val + d.val, by omega⟩ : Fin 512) = ⟨64 * h.val + d.val, by omega⟩ := fun d => Fin.ext (by show 128 * g.val + d.val = 64 * h.val + d.val; omega)
    simp only [if_pos hl, e, eh, ec, headAt]
  · have eh : (⟨2 * g.val + 1, by omega⟩ : Fin 8) = h := Fin.ext (by show 2 * g.val + 1 = h.val; omega)
    have e : ∀ d : Fin 64, (⟨128 * g.val + (64 + d.val), by omega⟩ : Fin 512) = ⟨64 * h.val + d.val, by omega⟩ := fun d => Fin.ext (by show 128 * g.val + (64 + d.val) = 64 * h.val + d.val; omega)
    simp only [if_neg hl, e, eh, ec, headAt]

/-- An index of a stored tile is its row and its lane. -/
theorem idx_eta (x : S1x256x128.Idx) : x = ix3 0 (x 1) (x 2) := by
  funext a
  match a with
  | ⟨0, _⟩ => exact Fin.ext (by have : (x 0).val < 1 := (x 0).isLt; show (x 0).val = 0; omega)
  | ⟨1, _⟩ => rfl
  | ⟨2, _⟩ => rfl

variable (x : Vec Ideal S1x256x512 .bf16) (w : Vec Ideal S1x768x512 .bf16) (i : Fin 256) (K : Fin 768) (l : Fin 128)

/-! The slices of group 0: queries, keys, context keys, values, context values. -/

/-- Group 0 reads its queries from lane 0 on. -/
theorem slice_q0_at : k0_pay7 (F := Ideal) x (ix2 i l) = x (ix3 0 i ⟨0 + l.val, by omega⟩) := by
  pointwise [k0_pay7, k0_pay4]

/-- Group 0 reads its keys from lane 0 on. -/
theorem slice_k0_at : k0_pay8 (F := Ideal) w (ix2 K l) = w (ix3 0 K ⟨0 + l.val, by omega⟩) := by
  pointwise [k0_pay8, k0_pay2]

/-- Group 0 reads its context keys from lane 0 on. -/
theorem slice_kc0_at : k0_pay9 (F := Ideal) x (ix2 i l) = x (ix3 0 i ⟨0 + l.val, by omega⟩) := by
  pointwise [k0_pay9, k0_pay5]

/-- Group 0 reads its values from lane 0 on. -/
theorem slice_v0_at : k0_pay10 (F := Ideal) w (ix2 K l) = w (ix3 0 K ⟨0 + l.val, by omega⟩) := by
  pointwise [k0_pay10, k0_pay3]

/-- Group 0 reads its context values from lane 0 on. -/
theorem slice_vc0_at : k0_pay11 (F := Ideal) x (ix2 i l) = x (ix3 0 i ⟨0 + l.val, by omega⟩) := by
  pointwise [k0_pay11, k0_pay6]

/-! The slices of group 1: queries, keys, context keys, values, context values. -/

/-- Group 1 reads its queries from lane 128 on. -/
theorem slice_q1_at : k0_pay30 (F := Ideal) (k0_pay4 x) (ix2 i l) = x (ix3 0 i ⟨128 + l.val, by omega⟩) := by
  pointwise [k0_pay30, k0_pay4]

/-- Group 1 reads its keys from lane 128 on. -/
theorem slice_k1_at : k0_pay31 (F := Ideal) (k0_pay2 w) (ix2 K l) = w (ix3 0 K ⟨128 + l.val, by omega⟩) := by
  pointwise [k0_pay31, k0_pay2]

/-- Group 1 reads its context keys from lane 128 on. -/
theorem slice_kc1_at : k0_pay32 (F := Ideal) (k0_pay5 x) (ix2 i l) = x (ix3 0 i ⟨128 + l.val, by omega⟩) := by
  pointwise [k0_pay32, k0_pay5]

/-- Group 1 reads its values from lane 128 on. -/
theorem slice_v1_at : k0_pay33 (F := Ideal) (k0_pay3 w) (ix2 K l) = w (ix3 0 K ⟨128 + l.val, by omega⟩) := by
  pointwise [k0_pay33, k0_pay3]

/-- Group 1 reads its context values from lane 128 on. -/
theorem slice_vc1_at : k0_pay34 (F := Ideal) (k0_pay6 x) (ix2 i l) = x (ix3 0 i ⟨128 + l.val, by omega⟩) := by
  pointwise [k0_pay34, k0_pay6]

/-! The slices of group 2: queries, keys, context keys, values, context values. -/

/-- Group 2 reads its queries from lane 256 on. -/
theorem slice_q2_at : k0_pay53 (F := Ideal) (k0_pay4 x) (ix2 i l) = x (ix3 0 i ⟨256 + l.val, by omega⟩) := by
  pointwise [k0_pay53, k0_pay4]

/-- Group 2 reads its keys from lane 256 on. -/
theorem slice_k2_at : k0_pay54 (F := Ideal) (k0_pay2 w) (ix2 K l) = w (ix3 0 K ⟨256 + l.val, by omega⟩) := by
  pointwise [k0_pay54, k0_pay2]

/-- Group 2 reads its context keys from lane 256 on. -/
theorem slice_kc2_at : k0_pay55 (F := Ideal) (k0_pay5 x) (ix2 i l) = x (ix3 0 i ⟨256 + l.val, by omega⟩) := by
  pointwise [k0_pay55, k0_pay5]

/-- Group 2 reads its values from lane 256 on. -/
theorem slice_v2_at : k0_pay56 (F := Ideal) (k0_pay3 w) (ix2 K l) = w (ix3 0 K ⟨256 + l.val, by omega⟩) := by
  pointwise [k0_pay56, k0_pay3]

/-- Group 2 reads its context values from lane 256 on. -/
theorem slice_vc2_at : k0_pay57 (F := Ideal) (k0_pay6 x) (ix2 i l) = x (ix3 0 i ⟨256 + l.val, by omega⟩) := by
  pointwise [k0_pay57, k0_pay6]

/-! The slices of group 3: queries, keys, context keys, values, context values. -/

/-- Group 3 reads its queries from lane 384 on. -/
theorem slice_q3_at : k0_pay76 (F := Ideal) (k0_pay4 x) (ix2 i l) = x (ix3 0 i ⟨384 + l.val, by omega⟩) := by
  pointwise [k0_pay76, k0_pay4]

/-- Group 3 reads its keys from lane 384 on. -/
theorem slice_k3_at : k0_pay77 (F := Ideal) (k0_pay2 w) (ix2 K l) = w (ix3 0 K ⟨384 + l.val, by omega⟩) := by
  pointwise [k0_pay77, k0_pay2]

/-- Group 3 reads its context keys from lane 384 on. -/
theorem slice_kc3_at : k0_pay78 (F := Ideal) (k0_pay5 x) (ix2 i l) = x (ix3 0 i ⟨384 + l.val, by omega⟩) := by
  pointwise [k0_pay78, k0_pay5]

/-- Group 3 reads its values from lane 384 on. -/
theorem slice_v3_at : k0_pay79 (F := Ideal) (k0_pay3 w) (ix2 K l) = w (ix3 0 K ⟨384 + l.val, by omega⟩) := by
  pointwise [k0_pay79, k0_pay3]

/-- Group 3 reads its context values from lane 384 on. -/
theorem slice_vc3_at : k0_pay80 (F := Ideal) (k0_pay6 x) (ix2 i l) = x (ix3 0 i ⟨384 + l.val, by omega⟩) := by
  pointwise [k0_pay80, k0_pay6]

variable (q : FVec Ideal S256x128 .bf16) (k : FVec Ideal S768x128 .bf16) (kc : FVec Ideal S256x128 .bf16) (v : FVec Ideal S768x128 .bf16) (vc : FVec Ideal S256x128 .bf16)
  (b0 b1 : Vec Ideal S1x1x256x768 .f32)

/-- The store of group 1 is the same computation on its own slices. -/
theorem store1 : k0_pay52 v vc (k0_pay45 (k0_pay43 lanes q k kc v vc 64#32 (k0_pay35 lanes) (k0_pay36 lanes) b0) (k0_pay44 lanes q k kc 64#32 (k0_pay35 lanes) (k0_pay36 lanes) b0)) (k0_pay46 lanes)
    (k0_pay48 lanes q k b1) (k0_pay49 lanes q kc) (k0_pay50 lanes q k b1) (k0_pay51 lanes q kc) = pairPay q k kc v vc b0 b1 := rfl

/-- The store of group 2 is the same computation on its own slices. -/
theorem store2 : k0_pay75 v vc (k0_pay68 (k0_pay66 lanes q k kc v vc 64#32 (k0_pay58 lanes) (k0_pay59 lanes) b0) (k0_pay67 lanes q k kc 64#32 (k0_pay58 lanes) (k0_pay59 lanes) b0)) (k0_pay69 lanes)
    (k0_pay71 lanes q k b1) (k0_pay72 lanes q kc) (k0_pay73 lanes q k b1) (k0_pay74 lanes q kc) = pairPay q k kc v vc b0 b1 := rfl

/-- The store of group 3 is the same computation on its own slices. -/
theorem store3 : k0_pay1 v vc (k0_pay91 (k0_pay89 lanes q k kc v vc 64#32 (k0_pay81 lanes) (k0_pay82 lanes) b0) (k0_pay90 lanes q k kc 64#32 (k0_pay81 lanes) (k0_pay82 lanes) b0)) (k0_pay92 lanes)
    (k0_pay94 lanes q k b1) (k0_pay95 lanes q kc) (k0_pay96 lanes q k b1) (k0_pay97 lanes q kc) = pairPay q k kc v vc b0 b1 := rfl

end Cert.KernelIdeal.RefValue

end
-- ==== Proof.AttnSoftmax.lean ====
module

public import proofs.«01_k».proof.Proof.AttnBody

@[expose] public section

set_option maxRecDepth 16384

noncomputable section

namespace Cert.KernelIdeal.RefValue

open Idealize.ShloMosaic

/-- A finite nonnegative factor goes into a sum. -/
theorem sum_mul_real {ι : Type} (s : Finset ι) (f : ι → EReal) (r : ℝ) (hr : 0 ≤ r) : (∑ i ∈ s, f i) * (r : EReal) = ∑ i ∈ s, f i * (r : EReal) := by
  classical
  induction s using Finset.induction with
  | empty => simp
  | insert a s ha ih =>
    rw [Finset.sum_insert ha, Finset.sum_insert ha, ← ih]
    exact EReal.right_distrib_of_nonneg_of_ne_top (by exact_mod_cast hr) (EReal.coe_ne_top r) _ _

/-- Real weights add up to a real. -/
theorem sum_real {ι : Type} [Fintype ι] (f : ι → ℝ) : (∑ i, ((f i : ℝ) : EReal)) = ((∑ i, f i : ℝ) : EReal) := by
  classical
  have : ∀ s : Finset ι, (∑ i ∈ s, ((f i : ℝ) : EReal)) = ((∑ i ∈ s, f i : ℝ) : EReal) := fun s => by
    induction s using Finset.induction with
    | empty => simp
    | insert a s ha ih => rw [Finset.sum_insert ha, Finset.sum_insert ha, ih, EReal.coe_add]
  exact this _

/-- Folding the maximum from minus infinity is the supremum. -/
theorem fold_sup {ι : Type} [Fintype ι] (f : ι → EReal) : Finset.univ.fold max ⊥ f = Finset.univ.sup f := rfl

/-- A window of visible scores inside a longer row whose other scores are minus infinity: the softmax-weighted mean of the longer row is the one of the window,
    and dividing the weights first or the weighted sum last is the same. -/
theorem headOut_window (sK : Fin 768 → EReal) (t : Fin 256 → EReal) (uK : Fin 768 → EReal) (u' : Fin 256 → EReal) (s u : Fin 128 → EReal) (φ : Fin 128 → Fin 768)
    (hφ : Function.Injective φ) (hs : ∀ j, sK (φ j) = s j) (hu : ∀ j, uK (φ j) = u j) (hbot : ∀ K, K ∉ Set.range φ → sK K = ⊥)
    (a : Fin 128 → ℝ) (a' : Fin 256 → ℝ) (ha : ∀ j, s j = a j) (ha' : ∀ j, t j = a' j) (M : EReal)
    (hM : M = max (Finset.univ.sup s) (Finset.univ.sup t)) (D : EReal) (hD : D = (∑ j, Ideal.exp (s j - M)) + ∑ j, Ideal.exp (t j - M)) :
    headOut sK t uK u' = (∑ j, Ideal.div (Ideal.exp (s j - M)) D * u j) + ∑ j, Ideal.div (Ideal.exp (t j - M)) D * u' j := by
  have hsup : Finset.univ.sup sK = Finset.univ.sup s := by
    refine le_antisymm (Finset.sup_le fun K _ => ?_) (Finset.sup_le fun j _ => ?_)
    · by_cases hK : K ∈ Set.range φ
      · obtain ⟨j, rfl⟩ := hK
        rw [hs]
        exact Finset.le_sup (f := s) (Finset.mem_univ j)
      · rw [hbot K hK]
        exact bot_le
    · rw [← hs]
      exact Finset.le_sup (f := sK) (Finset.mem_univ (φ j))
  have hMr : ∃ r : ℝ, M = r := by
    have h1 : M ≠ ⊤ := by
      rw [hM]
      refine ne_of_lt (max_lt ?_ ?_)
      · rw [Finset.sup_lt_iff (by simp)]
        intro j _
        rw [ha]
        exact EReal.coe_lt_top _
      · rw [Finset.sup_lt_iff (by simp)]
        intro j _
        rw [ha']
        exact EReal.coe_lt_top _
    have h2 : M ≠ ⊥ := by
      have : s 0 ≤ M := by
        rw [hM]
        exact le_max_of_le_left (Finset.le_sup (f := s) (Finset.mem_univ 0))
      intro h
      rw [h, ha] at this
      exact absurd (le_bot_iff.1 this) (EReal.coe_ne_bot _)
    exact ⟨M.toReal, (EReal.coe_toReal h1 h2).symm⟩
  obtain ⟨r, hr⟩ := hMr
  have e1 : ∀ j, Ideal.exp (s j - M) = ((Real.exp (a j - r) : ℝ) : EReal) := fun j => by
    rw [ha, hr, ← EReal.coe_sub]; rfl
  have e2 : ∀ j, Ideal.exp (t j - M) = ((Real.exp (a' j - r) : ℝ) : EReal) := fun j => by
    rw [ha', hr, ← EReal.coe_sub]; rfl
  have e3 : ∀ K, K ∉ Set.range φ → Ideal.exp (sK K - M) = 0 := fun K hK => by
    rw [hbot K hK, hr, EReal.bot_sub]; rfl
  have hd : D = ((∑ j, Real.exp (a j - r) + ∑ j, Real.exp (a' j - r) : ℝ) : EReal) := by
    rw [hD]
    simp only [e1, e2]
    rw [sum_real, sum_real, EReal.coe_add]
  have hpos : 0 < ∑ j, Real.exp (a j - r) + ∑ j, Real.exp (a' j - r) :=
    add_pos (Finset.sum_pos (fun j _ => Real.exp_pos _) ⟨0, Finset.mem_univ 0⟩) (Finset.sum_pos (fun j _ => Real.exp_pos _) ⟨0, Finset.mem_univ 0⟩)
  generalize ∑ j, Real.exp (a j - r) + ∑ j, Real.exp (a' j - r) = d at hd hpos
  have hdiv : ∀ x : EReal, Ideal.div x D = x * ((d⁻¹ : ℝ) : EReal) := fun x => by
    rw [hd]
    unfold Ideal.div
    rw [if_neg (by exact_mod_cast hpos.ne'), EReal.coe_inv]
  have k1 : (∑ K, Ideal.exp (sK K - M) * uK K) = ∑ j, Ideal.exp (s j - M) * u j :=
    (Fintype.sum_of_injective φ hφ _ _ (fun K hK => by rw [e3 K hK, zero_mul]) fun j => by rw [hs, hu]).symm
  have k2 : (∑ K, Ideal.exp (sK K - M)) = ∑ j, Ideal.exp (s j - M) :=
    (Fintype.sum_of_injective φ hφ _ _ e3 fun j => by rw [hs]).symm
  unfold headOut
  rw [fold_sup, fold_sup, hsup, ← hM]
  simp only []
  rw [k1, k2, ← hD, hdiv]
  simp only [hdiv]
  rw [EReal.right_distrib_of_nonneg_of_ne_top (by exact_mod_cast (inv_pos.2 hpos).le) (EReal.coe_ne_top _), sum_mul_real _ _ _ (inv_pos.2 hpos).le, sum_mul_real _ _ _ (inv_pos.2 hpos).le]
  refine congrArg₂ (· + ·) (Finset.sum_congr rfl fun j _ => ?_) (Finset.sum_congr rfl fun j _ => ?_) <;> exact mul_right_comm _ _ _

end Cert.KernelIdeal.RefValue

end
-- ==== Proof.AttnBias.lean ====
module

public import proofs.«01_k».proof.Proof.Gen.KernelIdeal.Frame.RunA
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.KernelIdeal.RefValue

open Idealize.ShloMosaic Idealize.ShloMosaic.TcCoe Cert.KernelIdeal Cert.KernelIdeal.Gen

variable {F : FTy → Type} [FloatOps F]

/-- One relative row of the bias, sliced out and flattened to [head, query column, key column]. -/
theorem slab_at {α : Type} (T : S8x15x64x64.Idx → α) (r : ℕ) (hs : S8x15x64x64.Slices ![0, r, 0, 0] S8x1x64x64) (hc : S8x1x64x64.ShapeCasts S8x64x64) (hr : r < 15)
    (h : Fin 8) (w k : Fin 64) : shapeCast S8x64x64 (extractStridedSlice S8x1x64x64 ![0, r, 0, 0] T hs) hc (ix3 h w k) = T (ix4 h ⟨r, hr⟩ w k) := by
  pointwise

/-- Three tables laid end to end, read at a position of table `c`. -/
theorem stack3_at {α : Type} (x0 x1 x2 : S1x8x256x768.Idx → α) (hc) (c : Fin 3) (h : Fin 8) (q : Fin 256) (k : Fin 768) :
    concatenate S3x8x256x768 0 [⟨S1x8x256x768, x0⟩, ⟨S1x8x256x768, x1⟩, ⟨S1x8x256x768, x2⟩] hc (ix4 c h q k) = ![x0, x1, x2] c (ix4 0 h q k) := by
  fin_cases c <;> pointwise

/-- Four row blocks laid end to end, read at row `w` of block `a`. -/
theorem rows4_at {α : Type} (x0 x1 x2 x3 : S8x64x768.Idx → α) (hc) (h : Fin 8) (a : Fin 4) (w : Fin 64) (k : Fin 768) :
    concatenate S8x256x768 1 [⟨S8x64x768, x0⟩, ⟨S8x64x768, x1⟩, ⟨S8x64x768, x2⟩, ⟨S8x64x768, x3⟩] hc (ix3 h ⟨64 * a.val + w.val, by omega⟩ k) = ![x0, x1, x2, x3] a (ix3 h w k) :=
  concatenate_ofFn_apply (t := S8x256x768) (1 : Fin 3) ![x0, x1, x2, x3] hc rfl 64 rfl _ a (by show (64 * a.val + w.val) / 64 = a.val; omega) (ix3 h w k)
    (by show w.val = (64 * a.val + w.val) % 64; omega) fun b hb => by fin_cases b <;> first | rfl | exact absurd rfl hb

/-- Twelve key blocks laid end to end, read at key `k` of block `a`. -/
theorem keys12_at {α : Type} (x0 x1 x2 x3 x4 x5 x6 x7 x8 x9 x10 x11 : S8x64x64.Idx → α) (hc) (h : Fin 8) (w : Fin 64) (a : Fin 12) (k : Fin 64) :
    concatenate S8x64x768 2 [⟨S8x64x64, x0⟩, ⟨S8x64x64, x1⟩, ⟨S8x64x64, x2⟩, ⟨S8x64x64, x3⟩, ⟨S8x64x64, x4⟩, ⟨S8x64x64, x5⟩, ⟨S8x64x64, x6⟩, ⟨S8x64x64, x7⟩,
      ⟨S8x64x64, x8⟩, ⟨S8x64x64, x9⟩, ⟨S8x64x64, x10⟩, ⟨S8x64x64, x11⟩] hc (ix3 h w ⟨64 * a.val + k.val, by omega⟩)
      = ![x0, x1, x2, x3, x4, x5, x6, x7, x8, x9, x10, x11] a (ix3 h w k) :=
  concatenate_ofFn_apply (t := S8x64x768) (2 : Fin 3) ![x0, x1, x2, x3, x4, x5, x6, x7, x8, x9, x10, x11] hc rfl 64 rfl _ a (by show (64 * a.val + k.val) / 64 = a.val; omega) (ix3 h w k)
    (by show k.val = (64 * a.val + k.val) % 64; omega) fun b hb => by fin_cases b <;> first | rfl | exact absurd rfl hb

/-- A constant block. -/
theorem bcast_at (v : BitVec 32) (hb) (h : Fin 8) (w k : Fin 64) :
    broadcastInDim S8x64x64 ![] hb (constant (F := F) S_ .f32 v) (ix3 h w k) = FloatOps.ofBits .f32 v := by
  pointwise

/-- A table given a leading axis of one. -/
theorem lead_at {α : Type} (x : S8x256x768.Idx → α) (hb) (h : Fin 8) (q : Fin 256) (k : Fin 768) :
    broadcastInDim S1x8x256x768 ![1, 2, 3] hb x (ix4 0 h q k) = x (ix3 h q k) := by
  pointwise

/-- The first and the last key block that row `a` of a query block sees, in each of the three layouts: the top of the grid, the middle, the bottom. -/
def firstKey (c : Fin 3) (a : Fin 4) : ℕ := ![0, a.val, 4] c
/-- The relative row of key block `k` for row `a` of a query block. -/
def relRow (c : Fin 3) (a : Fin 4) (k : Fin 12) : ℕ := ![7 + k.val - a.val, 3 + k.val - a.val, k.val - a.val - 1] c

/-- The row offset of a visible key stays inside the bias table. -/
theorem relRow_lt : ∀ (c : Fin 3) (a : Fin 4) (k : Fin 12), firstKey c a ≤ k.val ∧ k.val < firstKey c a + 8 → relRow c a k < 15 := by decide

set_option maxHeartbeats 8000000 in
/-- The line of the laid-out table that belongs to a query and a row of staged keys: the bias where the key is visible, the mask elsewhere. -/
theorem table_line (σ : Valuation τ sig (Elt F)) (c : Fin 3) (h : Fin 8) (a : Fin 4) (w : Fin 64) (b : Fin 12) (k : Fin 64) :
    (StableHlo.after hostOps0_4 σ (Proc.devRef .tc main_v220) : S3x8x256x768.Idx → F .f32) (ix4 c h ⟨64 * a.val + w.val, by omega⟩ ⟨64 * b.val + k.val, by omega⟩)
      = if hs : firstKey c a ≤ b.val ∧ b.val < firstKey c a + 8 then (σ (Proc.devRef .tc main_v8) : S8x15x64x64.Idx → F .f32) (ix4 h ⟨relRow c a b, relRow_lt c a b hs⟩ w k)
        else FloatOps.ofBits .f32 0xFF800000#32 := by
  after_reads_simp
  simp only [Matrix.cons_val]
  refine (stack3_at _ _ _ _ c h _ _).trans ?_
  obtain rfl | rfl | rfl := (by decide : ∀ c : Fin 3, c = 0 ∨ c = 1 ∨ c = 2) c <;> simp only [Matrix.cons_val] <;> after_reads_simp <;> refine (lead_at _ _ h _ _).trans ?_ <;>
    refine (rows4_at _ _ _ _ _ h a w _).trans ?_ <;>
    obtain rfl | rfl | rfl | rfl := (by decide : ∀ a : Fin 4, a = 0 ∨ a = 1 ∨ a = 2 ∨ a = 3) a <;> simp only [Matrix.cons_val] <;> after_reads_simp <;> simp only [Matrix.cons_val] <;>
    refine (keys12_at _ _ _ _ _ _ _ _ _ _ _ _ _ h w b k).trans ?_ <;>
    obtain rfl | rfl | rfl | rfl | rfl | rfl | rfl | rfl | rfl | rfl | rfl | rfl := (by decide : ∀ b : Fin 12, b = 0 ∨ b = 1 ∨ b = 2 ∨ b = 3 ∨ b = 4 ∨ b = 5 ∨ b = 6 ∨ b = 7 ∨ b = 8 ∨ b = 9 ∨ b = 10 ∨ b = 11) b <;>
    simp only [Matrix.cons_val] <;> after_reads_simp
  all_goals first
    | exact ((slab_at _ _ _ _ (by decide) h w k).trans (by rw [dif_pos (by decide)]; rfl))
    | exact ((bcast_at _ _ h w k).trans (by rw [dif_neg (by decide)]))

end Cert.KernelIdeal.RefValue

end
-- ==== Proof.AttnMask.lean ====
module

public import proofs.«01_k».proof.Proof.AttnBias

@[expose] public section

set_option maxRecDepth 16384

noncomputable section

namespace Cert.KernelIdeal.Gen

open Idealize.ShloMosaic Idealize.ShloMosaic.TcCoe

variable {F : FTy → Type} [FloatOps F] (m : (ℓ : Loc nD τ sig) → Buf (Elt F) ℓ)

/-- The first column of the 16 columns query column `w` looks at. -/
def firstCol (w : ℕ) : ℕ := min (w - 8) 48

/-- The mask keeps the 16 columns of each query. -/
theorem mask_at (w k : Fin 64) : lit0 ⟨64 * w.val + k.val, by omega⟩ = if firstCol w.val ≤ k.val ∧ k.val < firstCol w.val + 16 then 1#1 else 0#1 := by
  revert w k
  decide +kernel

end Cert.KernelIdeal.Gen

end
-- ==== Proof.AttnShift.lean ====
module

public import proofs.«01_k».proof.Proof.AttnBias
public import proofs.«01_k».proof.Proof.AttnMask

@[expose] public section

set_option maxRecDepth 16384

noncomputable section

namespace Cert.KernelIdeal.Gen

open Idealize.ShloMosaic Idealize.ShloMosaic.TcCoe

variable {F : FTy → Type} [FloatOps F] (m : (ℓ : Loc nD τ sig) → Buf (Elt F) ℓ)

/-- The column difference of a visible key is in the bias's range. -/
theorem colOff_lt {w k : Fin 64} (h : firstCol w.val ≤ k.val ∧ k.val < firstCol w.val + 16) : k.val + 15 - w.val < 31 := by
  unfold firstCol at h; omega

/-- The bias row is padded on both sides. -/
theorem pad_at {α : Type} (x : S8x15x31.Idx → α) (v : S_.Idx → α) (hp hv) (h : Fin 8) (r : Fin 15) (j : Fin 31) (J : Fin 128) (e : J.val = 48 + j.val) :
    pad S8x15x128 ![0, 0, 48] ![0, 0, 49] ![0, 0, 0] x v hp hv (ix3 h r J) = x (ix3 h r j) := by
  have e' : J = ⟨48 + j.val, by omega⟩ := Fin.ext e
  rw [e']
  pointwise

/-- Repeating a padded row of 128 and cutting it into rows of 127 shifts it by one place a row. -/
theorem skew_at {α : Type} (x : S8x15x128.Idx → α) (h1 h2 h3 h4 h5 h6) (h : Fin 8) (r : Fin 15) (w k : Fin 64) (J : Fin 128) (e : J.val = k.val + 63 - w.val) :
    extractStridedSlice S8x15x64x64 ![0, 0, 0, 63] (shapeCast S8x15x64x127 (extractStridedSlice S8x15x8128 ![0, 0, 0] (shapeCast S8x15x8192 (broadcastInDim S1x8x1x15x64x128 ![0, 1, 2, 3, 4, 5] h1 (shapeCast S1x8x1x15x1x128 x h2)) h3) h4) h5) h6 (ix4 h r w k)
      = x (ix3 h r J) := by
  pointwise
  refine congrArg x (congrArg (ix3 h r) (Fin.ext ?_))
  show (w.val * 127 + (63 + k.val)) % 128 = J.val
  omega

/-- The shifted and masked bias, as the host code builds it. -/
def shifted (x : FVec F S8x15x31 .f32) : FVec F S8x15x64x64 .f32 :=
  select (broadcastInDim S8x15x64x64 ![0, 1, 2, 3] bcast_S1x1x64x64_S8x15x64x64_0_1_2_3 (broadcastInDim S1x1x64x64 ![2, 3] bcast_S64x64_S1x1x64x64_2_3 fun i => lit0 (S64x64.rowMajor i)))
    (extractStridedSlice S8x15x64x64 ![0, 0, 0, 63] (shapeCast S8x15x64x127 (extractStridedSlice S8x15x8128 ![0, 0, 0] (shapeCast S8x15x8192
      (broadcastInDim S1x8x1x15x64x128 ![0, 1, 2, 3, 4, 5] bcast_S1x8x1x15x1x128_S1x8x1x15x64x128_0_1_2_3_4_5
        (shapeCast S1x8x1x15x1x128 (pad S8x15x128 ![0, 0, 48] ![0, 0, 49] ![0, 0, 0] x (sitofp .f32 (constantI S_ 32 0#32)) pads_S8x15x31_S8x15x128_000_000_48490 h_S_) shapeCasts_S8x15x128_S1x8x1x15x1x128))
      shapeCasts_S1x8x1x15x64x128_S8x15x8192) slices_S8x15x8192_S8x15x8128_0_0_0) shapeCasts_S8x15x8128_S8x15x64x127) slices_S8x15x64x127_S8x15x64x64_0_0_0_63)
    (broadcastInDim S8x15x64x64 ![] bcast_S_S8x15x64x64 (constant S_ .f32 0xFF800000#32))

/-- Query column `w` sees the bias of column difference `k - w` inside its 16 columns and minus infinity elsewhere. -/
theorem shifted_at (x : FVec F S8x15x31 .f32) (h : Fin 8) (r : Fin 15) (w k : Fin 64) :
    shifted x (ix4 h r w k) = if hc : firstCol w.val ≤ k.val ∧ k.val < firstCol w.val + 16 then x (ix3 h r ⟨k.val + 15 - w.val, colOff_lt hc⟩) else FloatOps.ofBits .f32 0xFF800000#32 := by
  have e1 : broadcastInDim S8x15x64x64 ![0, 1, 2, 3] bcast_S1x1x64x64_S8x15x64x64_0_1_2_3 (broadcastInDim S1x1x64x64 ![2, 3] bcast_S64x64_S1x1x64x64_2_3 fun i => lit0 (S64x64.rowMajor i)) (ix4 h r w k)
      = lit0 ⟨64 * w.val + k.val, by omega⟩ := by
    pointwise
    refine congrArg lit0 (Fin.ext ((Shape.rowMajor_val_two _).trans ?_))
    show w.val * 64 + k.val = 64 * w.val + k.val
    omega
  have e3 : broadcastInDim S8x15x64x64 ![] bcast_S_S8x15x64x64 (constant (F := F) S_ .f32 0xFF800000#32) (ix4 h r w k) = FloatOps.ofBits .f32 0xFF800000#32 := by
    pointwise
  have e2 : ∀ hc : firstCol w.val ≤ k.val ∧ k.val < firstCol w.val + 16, extractStridedSlice S8x15x64x64 ![0, 0, 0, 63] (shapeCast S8x15x64x127 (extractStridedSlice S8x15x8128 ![0, 0, 0] (shapeCast S8x15x8192
      (broadcastInDim S1x8x1x15x64x128 ![0, 1, 2, 3, 4, 5] bcast_S1x8x1x15x1x128_S1x8x1x15x64x128_0_1_2_3_4_5
        (shapeCast S1x8x1x15x1x128 (pad S8x15x128 ![0, 0, 48] ![0, 0, 49] ![0, 0, 0] x (sitofp .f32 (constantI S_ 32 0#32)) pads_S8x15x31_S8x15x128_000_000_48490 h_S_) shapeCasts_S8x15x128_S1x8x1x15x1x128))
      shapeCasts_S1x8x1x15x64x128_S8x15x8192) slices_S8x15x8192_S8x15x8128_0_0_0) shapeCasts_S8x15x8128_S8x15x64x127) slices_S8x15x64x127_S8x15x64x64_0_0_0_63 (ix4 h r w k) = x (ix3 h r ⟨k.val + 15 - w.val, colOff_lt hc⟩) := by
    intro hc
    have hf : firstCol w.val = min (w.val - 8) 48 := rfl
    exact (skew_at _ _ _ _ _ _ _ h r w k ⟨k.val + 63 - w.val, by omega⟩ rfl).trans
      (pad_at _ _ _ _ h r ⟨k.val + 15 - w.val, colOff_lt hc⟩ _ (by show k.val + 63 - w.val = 48 + (k.val + 15 - w.val); omega))
  show Scalar.select _ _ _ = _
  rw [e1, e3, mask_at]
  unfold Scalar.select
  by_cases hc : firstCol w.val ≤ k.val ∧ k.val < firstCol w.val + 16
  · rw [if_pos hc, dif_pos hc, if_pos (show (1#1 : BitVec 1) = 1 from by decide)]
    exact e2 hc
  · rw [if_neg hc, dif_neg hc, if_neg (by decide)]

/-- The host lines before the tables build the shifted bias. -/
theorem shift_line (c : Dev nD) :
    StableHlo.after (hostOps0 ++ hostOps0_1 ++ hostOps0_2 ++ hostOps0_3 : List (HloOp τ sig (Elt F))) (fun b => m (c, b)) (Proc.devRef .tc main_v8) = shifted (m (c, Proc.devRef .tc main_arg2)) := by
  simp only [hostOps0, hostOps0_1, hostOps0_2, hostOps0_3, List.cons_append, List.nil_append]
  entry_read
  rfl

/-- The bias tables when the grid starts: the bias of the row and column difference on the keys a query sees, minus infinity elsewhere. -/
theorem V_table (d : Dev nD) (c : Fin 3) (h : Fin 8) (a : Fin 4) (w : Fin 64) (b : Fin 12) (k : Fin 64) :
    V m d main_v220 (ix4 c h ⟨64 * a.val + w.val, by omega⟩ ⟨64 * b.val + k.val, by omega⟩)
      = if hs : RefValue.firstKey c a ≤ b.val ∧ b.val < RefValue.firstKey c a + 8 then
          if hc : firstCol w.val ≤ k.val ∧ k.val < firstCol w.val + 16 then m (d, Proc.devRef .tc main_arg2) (ix3 h ⟨RefValue.relRow c a b, RefValue.relRow_lt c a b hs⟩ ⟨k.val + 15 - w.val, colOff_lt hc⟩) else FloatOps.ofBits .f32 0xFF800000#32
        else FloatOps.ofBits .f32 0xFF800000#32 := by
  have e : (List.flatten [hostOps0, hostOps0_1, hostOps0_2, hostOps0_3, hostOps0_4] : List (HloOp τ sig (Elt F))) = (hostOps0 ++ hostOps0_1 ++ hostOps0_2 ++ hostOps0_3) ++ hostOps0_4 := by
    rw [List.flatten_cons, List.flatten_cons, List.flatten_cons, List.flatten_cons, List.flatten_cons, List.flatten_nil, List.append_nil, List.append_assoc, List.append_assoc, List.append_assoc]
  show StableHlo.after (List.flatten [hostOps0, hostOps0_1, hostOps0_2, hostOps0_3, hostOps0_4]) (fun b => m (d, b)) (Proc.devRef .tc main_v220) _ = _
  rw [e, StableHlo.after_append]
  refine (RefValue.table_line _ c h a w b k).trans ?_
  by_cases hs : RefValue.firstKey c a ≤ b.val ∧ b.val < RefValue.firstKey c a + 8
  · rw [dif_pos hs, dif_pos hs]
    exact (congrFun (shift_line m d) _).trans (shifted_at _ h _ w k)
  · rw [dif_neg hs, dif_neg hs]

end Cert.KernelIdeal.Gen

end
-- ==== Proof.AttnHead.lean ====
/- One grid point's block against the reference: the staged keys hold the window of every query, and the rest is masked. -/
module

public import proofs.«01_k».proof.Proof.AttnRef
public import proofs.«01_k».proof.Proof.AttnBlock
public import proofs.«01_k».proof.Proof.AttnSoftmax
public import proofs.«01_k».proof.Proof.AttnShift

@[expose] public section

set_option maxRecDepth 16384

noncomputable section

namespace Cert.KernelIdeal.RefValue

open Idealize.ShloMosaic Idealize.ShloMosaic.TcCoe Cert.KernelIdeal Cert.KernelIdeal.Gen
open Cert.ReferenceIdeal.Read (winTok winRow winCol winScore ctxScore rowMax rowSum attend)

/-- A window starts at most four rows into the staged keys. -/
theorem firstKey_le (c : Fin 3) (a : Fin 4) : firstKey c a ≤ 4 := by
  revert c a; decide

/-- Where key `j` of a query's window lies among the staged keys. -/
def key (c : Fin 3) (a : Fin 4) (w : Fin 64) (j : Fin 128) : Fin 768 :=
  ⟨64 * (firstKey c a + j.val / 16) + (firstCol w.val + j.val % 16), by
    have := firstKey_le c a
    unfold firstCol
    omega⟩

/-- The staged key as a number: 64 per row, then the column. -/
theorem key_val (c : Fin 3) (a : Fin 4) (w : Fin 64) (j : Fin 128) : (key c a w j).val = 64 * (firstKey c a + j.val / 16) + (firstCol w.val + j.val % 16) := rfl

/-- A window starts at column 48 at the latest. -/
theorem firstCol_le (w : ℕ) : firstCol w ≤ 48 := by
  unfold firstCol; omega

/-- Different keys of a window are different staged keys. -/
theorem key_injective (c : Fin 3) (a : Fin 4) (w : Fin 64) : Function.Injective (key c a w) := by
  intro j j' h
  have h' := congrArg Fin.val h
  rw [key_val, key_val] at h'
  have := firstCol_le w.val
  exact Fin.ext (by omega)

/-- A staged key inside the window's rows and columns is a key of the window. -/
theorem key_range (c : Fin 3) (a : Fin 4) (w : Fin 64) (K : Fin 768) (h1 : firstKey c a ≤ K.val / 64) (h2 : K.val / 64 < firstKey c a + 8)
    (h3 : firstCol w.val ≤ K.val % 64) (h4 : K.val % 64 < firstCol w.val + 16) : K ∈ Set.range (key c a w) := by
  refine ⟨⟨16 * (K.val / 64 - firstKey c a) + (K.val % 64 - firstCol w.val), by omega⟩, Fin.ext ?_⟩
  rw [key_val]
  dsimp only
  omega

/-- Which bias table group `r` reads. -/
def config (r : Fin 16) : Fin 3 := ⟨(lit2 r).toNat, by revert r; decide +kernel⟩

/-- The staged rows begin so that the window begins where the query's does. -/
theorem start_row (r : Fin 16) (a : Fin 4) : (lit1 r).toNat + firstKey (config r) a = min (4 * r.val + a.val - 4) 56 := by
  revert r a; decide +kernel

/-- The bias row of a window row. -/
theorem bias_row (r : Fin 16) (a : Fin 4) (k : Fin 8) : relRow (config r) a ⟨firstKey (config r) a + k.val, by have := firstKey_le (config r) a; omega⟩ + (4 * r.val + a.val) = min (4 * r.val + a.val - 4) 56 + 7 + k.val := by
  revert r a k; decide +kernel

/-- The staged rows lie inside the image. -/
theorem start_le (r : Fin 16) : 64 * (lit1 r).toNat + 768 ≤ 4096 := by
  revert r; decide +kernel

section
variable (x0 : FVec Ideal Cert.ReferenceIdeal.S8x4096x1536 .bf16) (x1 : FVec Ideal Cert.ReferenceIdeal.S8x256x1536 .bf16) (x2 : FVec Ideal Cert.ReferenceIdeal.S8x15x31 .f32)

/-- A sum of products of reals is real. -/
theorem real_dot (f g : Fin 64 → EReal) (hf : ∀ d, ∃ r : ℝ, f d = r) (hg : ∀ d, ∃ r : ℝ, g d = r) : ∃ r : ℝ, ∑ d, f d * g d = r := by
  choose p hp using hf
  choose q hq using hg
  refine ⟨∑ d, p d * q d, ?_⟩
  rw [← sum_real]
  exact Finset.sum_congr rfl fun d _ => by rw [hp, hq, EReal.coe_mul]

/-- The window's scores are real. -/
theorem real_win (hqk : ∀ (b : Fin 8) (t : Fin 4096) (ch : Fin 1024), ∃ r : ℝ, x0 (ix3 b t ⟨ch.val, by omega⟩) = r) (hb : ∀ i, ∃ r : ℝ, x2 i = r)
    (b h : Fin 8) (t : Fin 4096) (j : Fin 128) : ∃ r : ℝ, winScore x0 x2 b h t j = r := by
  obtain ⟨p, hp⟩ := real_dot (fun d => x0 (ix3 b t ⟨64 * h.val + d.val, by omega⟩)) (fun d => x0 (ix3 b (winTok t j) ⟨512 + (64 * h.val + d.val), by omega⟩))
    (fun d => hqk b t ⟨64 * h.val + d.val, by omega⟩) (fun d => hqk b (winTok t j) ⟨512 + (64 * h.val + d.val), by omega⟩)
  obtain ⟨q, hq⟩ := hb (ix3 h (winRow t j) (winCol t j))
  refine ⟨p + q, ?_⟩
  unfold winScore
  rw [hp, hq, EReal.coe_add]

/-- The context's scores are real. -/
theorem real_ctx (hqk : ∀ (b : Fin 8) (t : Fin 4096) (ch : Fin 1024), ∃ r : ℝ, x0 (ix3 b t ⟨ch.val, by omega⟩) = r)
    (hkc : ∀ (b : Fin 8) (t : Fin 256) (ch : Fin 512), ∃ r : ℝ, x1 (ix3 b t ⟨512 + ch.val, by omega⟩) = r)
    (b h : Fin 8) (t : Fin 4096) (c : Fin 256) : ∃ r : ℝ, ctxScore x0 x1 b h t c = r :=
  real_dot (fun d => x0 (ix3 b t ⟨64 * h.val + d.val, by omega⟩)) (fun d => x1 (ix3 b c ⟨512 + (64 * h.val + d.val), by omega⟩))
    (fun d => hqk b t ⟨64 * h.val + d.val, by omega⟩) (fun d => hkc b c ⟨64 * h.val + d.val, by omega⟩)

/-- A grid point's block is the reference's attention, once its staged arrays are the slices of the arguments they should be. -/
theorem head_eq (w0 : Vec Ideal S1x256x512 .bf16) (w1 w2 : Vec Ideal S1x4096x512 .bf16) (w3 w4 : Vec Ideal S1x256x512 .bf16) (w5 : Vec Ideal S1x8x256x768 .f32)
    (b : Fin 8) (r : Fin 16) (hq : ∀ (i : Fin 256) (ch : Fin 512), w0 (ix3 0 i ch) = x0 (ix3 b ⟨256 * r.val + i.val, by omega⟩ ⟨ch.val, by omega⟩))
    (hk : ∀ (n : Fin 4096) (ch : Fin 512), w1 (ix3 0 n ch) = x0 (ix3 b n ⟨512 + ch.val, by omega⟩))
    (hv : ∀ (n : Fin 4096) (ch : Fin 512), w2 (ix3 0 n ch) = x0 (ix3 b n ⟨1024 + ch.val, by omega⟩))
    (hkc : ∀ (n : Fin 256) (ch : Fin 512), w3 (ix3 0 n ch) = x1 (ix3 b n ⟨512 + ch.val, by omega⟩))
    (hvc : ∀ (n : Fin 256) (ch : Fin 512), w4 (ix3 0 n ch) = x1 (ix3 b n ⟨1024 + ch.val, by omega⟩))
    (hin : ∀ (h : Fin 8) (a : Fin 4) (w : Fin 64) (j : Fin 128) (t : Fin 4096), t.val = 256 * r.val + (64 * a.val + w.val) →
      w5 (ix4 0 h ⟨64 * a.val + w.val, by omega⟩ (key (config r) a w j)) = x2 (ix3 h (winRow t j) (winCol t j)))
    (hout : ∀ (h : Fin 8) (a : Fin 4) (w : Fin 64) (K : Fin 768), K ∉ Set.range (key (config r) a w) → w5 (ix4 0 h ⟨64 * a.val + w.val, by omega⟩ K) = ⊥)
    (rqk : ∀ (b : Fin 8) (t : Fin 4096) (ch : Fin 1024), ∃ r : ℝ, x0 (ix3 b t ⟨ch.val, by omega⟩) = r) (rb : ∀ i, ∃ r : ℝ, x2 i = r)
    (rkc : ∀ (b : Fin 8) (t : Fin 256) (ch : Fin 512), ∃ r : ℝ, x1 (ix3 b t ⟨512 + ch.val, by omega⟩) = r)
    (i : Fin 256) (h : Fin 8) (d : Fin 64) :
    headAt w0 w1 w2 w3 w4 w5 (64 * (lit1 r).toNat) (start_le r) i h ⟨64 * h.val + d.val, by omega⟩ = attend x0 x1 x2 b ⟨256 * r.val + i.val, by omega⟩ h d := by
  obtain ⟨a, w, hi⟩ : ∃ (a : Fin 4) (w : Fin 64), i = ⟨64 * a.val + w.val, by omega⟩ :=
    ⟨⟨i.val / 64, by omega⟩, ⟨i.val % 64, by omega⟩, Fin.ext (by dsimp only; omega)⟩
  subst hi
  generalize ht : (⟨256 * r.val + (64 * a.val + w.val), by omega⟩ : Fin 4096) = t
  have htv : t.val = 256 * r.val + (64 * a.val + w.val) := by rw [← ht]
  have htok : ∀ j, (⟨64 * (lit1 r).toNat + (key (config r) a w j).val, by have := start_le r; omega⟩ : Fin 4096) = winTok t j := by
    intro j
    have h1 := start_row r a
    refine Fin.ext ?_
    show 64 * (lit1 r).toNat + (64 * (firstKey (config r) a + j.val / 16) + (firstCol w.val + j.val % 16)) = 64 * min (t.val / 64 - 4) 56 + min (t.val % 64 - 8) 48 + (64 * (j.val / 16) + j.val % 16)
    unfold firstCol
    have h2 : t.val / 64 = 4 * r.val + a.val := by omega
    have h3 : t.val % 64 = w.val := by omega
    rw [h2, h3]
    omega
  choose p hp using real_win x0 x2 rqk rb b h t
  choose p' hp' using real_ctx x0 x1 rqk rkc b h t
  unfold headAt attend
  have ectx : (fun j : Fin 256 => ∑ e : Fin 64, w0 (ix3 0 ⟨64 * a.val + w.val, by omega⟩ ⟨64 * h.val + e.val, by omega⟩) * w3 (ix3 0 j ⟨64 * h.val + e.val, by omega⟩)) = ctxScore x0 x1 b h t := by
    funext j
    unfold ctxScore
    exact Finset.sum_congr rfl fun e _ => by rw [hq, hkc, ← ht]
  have evc : (fun j : Fin 256 => w4 (ix3 0 j ⟨64 * h.val + d.val, by omega⟩)) = fun j => x1 (ix3 b j ⟨1024 + (64 * h.val + d.val), by omega⟩) := by
    funext j
    rw [hvc]
  rw [ectx, evc]
  refine headOut_window _ _ _ _ (winScore x0 x2 b h t) (fun j => x0 (ix3 b (winTok t j) ⟨1024 + (64 * h.val + d.val), by omega⟩)) (key (config r) a w) (key_injective _ a w) ?_ ?_ ?_ p p' hp hp' (rowMax x0 x1 x2 b h t) rfl (rowSum x0 x1 x2 b h t) rfl
  · intro j
    unfold winScore
    refine congrArg₂ (· + ·) (Finset.sum_congr rfl fun e _ => ?_) (hin h a w j t htv)
    rw [hq, hk, htok, ← ht]
  · intro j
    show w2 (ix3 0 _ _) = _
    rw [hv, htok]
  · intro K hK
    show (_ : EReal) + w5 (ix4 0 h _ K) = ⊥
    rw [hout h a w K hK, EReal.add_bot]

end

end Cert.KernelIdeal.RefValue

end
-- ==== Proof.AttnPoint.lean ====
module

public import proofs.«01_k».proof.Proof.AttnBlock
public import proofs.«01_k».proof.Proof.AttnRun

@[expose] public section

set_option maxRecDepth 16384

noncomputable section

namespace Cert.KernelIdeal.RefValue

open Idealize.ShloMosaic Idealize.ShloMosaic.TcCoe Cert.KernelIdeal Cert.KernelIdeal.Gen

/-- Rows read from an offset that is `st` along the rows. -/
theorem rows_of {x : Vec Ideal S1x4096x512 .bf16} {o : Fin 3 → ℕ} {st : ℕ} (ho : o = ![0, st, 0]) (K : Fin 768) (l : Fin 512) (h0 : o 0 < 1) (h1 : o 1 + K.val < 4096) (h2 : o 2 + l.val < 512) (h3 : st + K.val < 4096) :
    x (ix3 ⟨o 0, h0⟩ ⟨o 1 + K.val, h1⟩ ⟨o 2 + l.val, h2⟩) = x (ix3 0 ⟨st + K.val, h3⟩ l) := by
  subst ho
  have e : (⟨![0, st, 0] 2 + l.val, h2⟩ : Fin 512) = l := Fin.ext (Nat.zero_add _)
  rw [e]
  rfl

set_option maxHeartbeats 1000000 in
/-- What a grid point leaves in its block, position by position. -/
theorem block_at  (c : Dev nD) (i : grid0.Coords) (arg4 : Memref sig .tc .vmem S1x256x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x8x256x768 .f32) (harg9 : arg9.IsWhole) (arg10 : Memref sig .tc .vmem S1x256x512 .bf16) (harg10 : arg10.IsWhole)
    (x0 : Vec Ideal S1x256x512 .bf16) (x1 : Vec Ideal S1x4096x512 .bf16) (x2 : Vec Ideal S1x4096x512 .bf16) (x3 : Vec Ideal S1x256x512 .bf16) (x4 : Vec Ideal S1x256x512 .bf16) (x5 : Vec Ideal S1x8x256x768 .f32) (xt0 : TbBuf0 (F := Ideal) c tbM0_0) (xt1 : TbBuf0 (F := Ideal) c tbM0_1) (k0_hw1 : k0_chk1 (tbM0_0.view.readAt (Elt Ideal) (Rect.unit (s := S16) (k0_off1 i) S1.size (k0_off1_inb i)).toLoadRect xt0 (Shape.Idx.first (numel1_S1.symm ▸ Nat.one_pos))))
    (y : S1x256x512.Idx) (st : ℕ) (hst : st + 768 ≤ 4096)
    (hlt : k0_off1 i 0 < 16) (hoff : k0_off2 (View.read (Elt Ideal) (View.whole main_c_0) xt0 (ix1 ⟨k0_off1 i 0, hlt⟩)) = ![0, st, 0]) :
    out0_A_6 c i arg4 harg4 arg5 harg5 arg6 harg6 arg7 harg7 arg8 harg8 arg9 harg9 arg10 harg10 x0 x1 x2 x3 x4 x5 xt0 xt1 k0_hw1 y
      = headAt x0 x1 x2 x3 x4 x5 st hst (y 1) ⟨(y 2).val / 64, by have : (y 2).val < 512 := (y 2).isLt; omega⟩ (y 2) := by
  unfold out0_A_6
  frame_out
  generalize hw1 : View.ld x1 _ = w1
  generalize hw2 : View.ld x2 _ = w2
  have hk : ∀ (K : Fin 768) (l : Fin 512), w1 (ix3 0 K l) = x1 (ix3 0 ⟨st + K.val, by omega⟩ l) := by
    intro K l
    rw [← hw1]
    pointwise
    exact rows_of hoff K l _ _ _ _
  have hv : ∀ (K : Fin 768) (l : Fin 512), w2 (ix3 0 K l) = x2 (ix3 0 ⟨st + K.val, by omega⟩ l) := by
    intro K l
    rw [← hw2]
    pointwise
    exact rows_of hoff K l _ _ _ _
  clear hw1 hw2
  generalize hb0 : View.ld x5 (Rect.unit ![0, 0, 0, 0] ![1, 1, 256, 768] inb_S1x8x256x768_S1x1x256x768_0_0_0_0) = b0
  generalize hb1 : View.ld x5 (Rect.unit ![0, 1, 0, 0] ![1, 1, 256, 768] inb_S1x8x256x768_S1x1x256x768_0_1_0_0) = b1
  generalize hb2 : View.ld x5 (Rect.unit ![0, 2, 0, 0] ![1, 1, 256, 768] inb_S1x8x256x768_S1x1x256x768_0_2_0_0) = b2
  generalize hb3 : View.ld x5 (Rect.unit ![0, 3, 0, 0] ![1, 1, 256, 768] inb_S1x8x256x768_S1x1x256x768_0_3_0_0) = b3
  generalize hb4 : View.ld x5 (Rect.unit ![0, 4, 0, 0] ![1, 1, 256, 768] inb_S1x8x256x768_S1x1x256x768_0_4_0_0) = b4
  generalize hb5 : View.ld x5 (Rect.unit ![0, 5, 0, 0] ![1, 1, 256, 768] inb_S1x8x256x768_S1x1x256x768_0_5_0_0) = b5
  generalize hb6 : View.ld x5 (Rect.unit ![0, 6, 0, 0] ![1, 1, 256, 768] inb_S1x8x256x768_S1x1x256x768_0_6_0_0) = b6
  generalize hb7 : View.ld x5 (Rect.unit ![0, 7, 0, 0] ![1, 1, 256, 768] inb_S1x8x256x768_S1x1x256x768_0_7_0_0) = b7
  canon_tiles x h
  all_goals
    rw [show y 1 = x 1 from Fin.ext h1, idx_eta x]
  · refine Eq.trans (b := pairPay (k0_pay76 (k0_pay4 x0)) (k0_pay77 (k0_pay2 w1)) (k0_pay78 (k0_pay5 x3)) (k0_pay79 (k0_pay3 w2)) (k0_pay80 (k0_pay6 x4)) b6 b7 (ix3 0 (x 1) (x 2))) (congrFun (store3 (k0_pay76 (k0_pay4 x0)) (k0_pay77 (k0_pay2 w1)) (k0_pay78 (k0_pay5 x3)) (k0_pay79 (k0_pay3 w2)) (k0_pay80 (k0_pay6 x4)) b6 b7) _)
      (group_at x0 x1 x2 x3 x4 x5 st hst 3 _ _ _ _ _ _ _ (fun i l => slice_q3_at x0 i l) (fun K l => (slice_k3_at w1 K l).trans (hk K _)) (fun i l => slice_kc3_at x3 i l)
        (fun K l => (slice_v3_at w2 K l).trans (hv K _)) (fun i l => slice_vc3_at x4 i l) ?_ ?_ _ _ _ _ h2 rfl)
    · intro i K; rw [← hb6]; pointwise
    · intro i K; rw [← hb7]; pointwise
  · refine Eq.trans (b := pairPay (k0_pay53 (k0_pay4 x0)) (k0_pay54 (k0_pay2 w1)) (k0_pay55 (k0_pay5 x3)) (k0_pay56 (k0_pay3 w2)) (k0_pay57 (k0_pay6 x4)) b4 b5 (ix3 0 (x 1) (x 2))) (congrFun (store2 (k0_pay53 (k0_pay4 x0)) (k0_pay54 (k0_pay2 w1)) (k0_pay55 (k0_pay5 x3)) (k0_pay56 (k0_pay3 w2)) (k0_pay57 (k0_pay6 x4)) b4 b5) _)
      (group_at x0 x1 x2 x3 x4 x5 st hst 2 _ _ _ _ _ _ _ (fun i l => slice_q2_at x0 i l) (fun K l => (slice_k2_at w1 K l).trans (hk K _)) (fun i l => slice_kc2_at x3 i l)
        (fun K l => (slice_v2_at w2 K l).trans (hv K _)) (fun i l => slice_vc2_at x4 i l) ?_ ?_ _ _ _ _ h2 rfl)
    · intro i K; rw [← hb4]; pointwise
    · intro i K; rw [← hb5]; pointwise
  · refine Eq.trans (b := pairPay (k0_pay30 (k0_pay4 x0)) (k0_pay31 (k0_pay2 w1)) (k0_pay32 (k0_pay5 x3)) (k0_pay33 (k0_pay3 w2)) (k0_pay34 (k0_pay6 x4)) b2 b3 (ix3 0 (x 1) (x 2))) (congrFun (store1 (k0_pay30 (k0_pay4 x0)) (k0_pay31 (k0_pay2 w1)) (k0_pay32 (k0_pay5 x3)) (k0_pay33 (k0_pay3 w2)) (k0_pay34 (k0_pay6 x4)) b2 b3) _)
      (group_at x0 x1 x2 x3 x4 x5 st hst 1 _ _ _ _ _ _ _ (fun i l => slice_q1_at x0 i l) (fun K l => (slice_k1_at w1 K l).trans (hk K _)) (fun i l => slice_kc1_at x3 i l)
        (fun K l => (slice_v1_at w2 K l).trans (hv K _)) (fun i l => slice_vc1_at x4 i l) ?_ ?_ _ _ _ _ h2 rfl)
    · intro i K; rw [← hb2]; pointwise
    · intro i K; rw [← hb3]; pointwise
  · refine Eq.trans (b := pairPay (k0_pay7 x0) (k0_pay8 w1) (k0_pay9 x3) (k0_pay10 w2) (k0_pay11 x4) b0 b1 (ix3 0 (x 1) (x 2))) (rfl)
      (group_at x0 x1 x2 x3 x4 x5 st hst 0 _ _ _ _ _ _ _ (fun i l => slice_q0_at x0 i l) (fun K l => (slice_k0_at w1 K l).trans (hk K _)) (fun i l => slice_kc0_at x3 i l)
        (fun K l => (slice_v0_at w2 K l).trans (hv K _)) (fun i l => slice_vc0_at x4 i l) ?_ ?_ _ _ _ _ (h2.trans (Nat.zero_add _).symm) rfl)
    · intro i K; rw [← hb0]; pointwise
    · intro i K; rw [← hb1]; pointwise

end Cert.KernelIdeal.RefValue

end
-- ==== Proof.AttnFinal.lean ====
/- The attention kernel's result array is the reference's. -/
module

public import proofs.«01_k».proof.Proof.AttnHead
public import proofs.«01_k».proof.Proof.AttnPoint
public import proofs.«01_k».proof.Proof.AttnTables
public import proofs.«01_k».proof.Proof.AttnPre
public import Idealize.ShloMosaic.Lib.Pipeline.ValueKit

@[expose] public section

set_option maxRecDepth 16384

noncomputable section

namespace Cert.KernelIdeal.RefValue

open Idealize.ShloMosaic Idealize.ShloMosaic.TcCoe Cert.KernelIdeal Cert.KernelIdeal.Gen
open Cert.ReferenceIdeal.Read (winTok winRow winCol attend result_at val_main_v104)

variable (m : (ℓ : Loc nD τ sig) → Buf (Elt Ideal) ℓ)

/-- The image of a grid point. -/
abbrev img (t : Fin grid0.N) : Fin 8 := grid0.coords t 0

/-- The group of four image rows of a grid point. -/
abbrev grp (t : Fin grid0.N) : Fin 16 := grid0.coords t 1

/-- The block index of every window whose index map reads no table. -/
theorem idx : ∀ t : Fin grid0.N, cc0_transform_0 (grid0.coords t) = ![(img t).val, (grp t).val, 0] ∧ cc0_transform_1 (grid0.coords t) = ![(img t).val, 0, 1]
    ∧ cc0_transform_2 (grid0.coords t) = ![(img t).val, 0, 2] ∧ cc0_transform_3 (grid0.coords t) = ![(img t).val, 0, 1] ∧ cc0_transform_4 (grid0.coords t) = ![(img t).val, 0, 2]
    ∧ cc0_transform_6 (grid0.coords t) = ![(img t).val, (grp t).val, 0] := by
  decide +kernel

/-- A grid point by its image and its group. -/
theorem coords_at : ∀ (b : Fin 8) (r : Fin 16), ∃ t : Fin grid0.N, img t = b ∧ grp t = r := by
  decide +kernel

/-- The queries of a point are its image and its block of rows. -/
theorem idx_0 (t : Fin (cfgM m (ok m)).N) : ((cfgM m (ok m)).win 0).index t = ![(img t).val, (grp t).val, 0] := (idx t).1

/-- The keys of a point are the second third of its image's projection. -/
theorem idx_1 (t : Fin (cfgM m (ok m)).N) : ((cfgM m (ok m)).win 1).index t = ![(img t).val, 0, 1] := (idx t).2.1

/-- The values of a point are the last third of its image's projection. -/
theorem idx_2 (t : Fin (cfgM m (ok m)).N) : ((cfgM m (ok m)).win 2).index t = ![(img t).val, 0, 2] := (idx t).2.2.1

/-- The context keys of a point are the second third of its image's context projection. -/
theorem idx_3 (t : Fin (cfgM m (ok m)).N) : ((cfgM m (ok m)).win 3).index t = ![(img t).val, 0, 1] := (idx t).2.2.2.1

/-- The context values of a point are the last third of its image's context projection. -/
theorem idx_4 (t : Fin (cfgM m (ok m)).N) : ((cfgM m (ok m)).win 4).index t = ![(img t).val, 0, 2] := (idx t).2.2.2.2.1

/-- The result block of a point is at its image and its block of rows. -/
theorem idx_6 (t : Fin (cfgM m (ok m)).N) : ((cfgM m (ok m)).win 6).index t = ![(img t).val, (grp t).val, 0] := (idx t).2.2.2.2.2

/-- The table of configurations holds each block's configuration. -/
theorem config_val (r : Fin 16) : (lit2 r).toNat = (config r).val := rfl

/-- The bias window moves along the first axis only. -/
theorem bias_axes {F : FTy → Type} [FloatOps F] (pf : pre0.Contents (Elt F)) (i : grid0.Coords) (v : ℕ) (hv : cc0_transform_5 (F := F) k0_off1_inb numel1_S1 pf i 0 = v) :
    cc0_transform_5 (F := F) k0_off1_inb numel1_S1 pf i = ![v, 0, 0, 0] := by
  subst hv
  unfold cc0_transform_5
  funext a
  match a with
  | ⟨0, _⟩ => rfl
  | ⟨1, _⟩ => rfl
  | ⟨2, _⟩ => rfl
  | ⟨3, _⟩ => rfl

/-- The block index of the bias window: the configuration of the group. -/
theorem bias_index (i : grid0.Coords) : cc0_transform_5 (F := Ideal) k0_off1_inb numel1_S1 (tbl m) i = ![(config (i 1)).val, 0, 0, 0] :=
  bias_axes (tbl m) i _ (config_at m i)

/-- The bias window of a point is the one of its block's configuration. -/
theorem idx_5 (t : Fin (cfgM m (ok m)).N) : ((cfgM m (ok m)).win 5).index t = ![(config (grp t)).val, 0, 0, 0] := bias_index m (grid0.coords t)

/-- What the staged queries hold, in terms of the first argument. -/
theorem read_q (c : Dev nD) (t : Fin (cfgM m (ok m)).N) (i : Fin 256) (ch : Fin 512) :
    iblk m (ok m) c 0 t (ix3 0 i ch) = m ((c : Thread nD τ).loc main_arg0) (ix3 (img t) ⟨256 * (grp t).val + i.val, by omega⟩ ⟨ch.val, by omega⟩) := by
  refine (congrFun (V_main_arg0 m c) _).trans (congrArg _ ?_)
  blk_ext [idx_0 m t]

/-- What the staged keys hold, in terms of the first argument. -/
theorem read_k (c : Dev nD) (t : Fin (cfgM m (ok m)).N) (n : Fin 4096) (ch : Fin 512) :
    iblk m (ok m) c 1 t (ix3 0 n ch) = m ((c : Thread nD τ).loc main_arg0) (ix3 (img t) n ⟨512 + ch.val, by omega⟩) := by
  refine (congrFun (V_main_arg0 m c) _).trans (congrArg _ ?_)
  blk_ext [idx_1 m t]

/-- What the staged values hold, in terms of the first argument. -/
theorem read_v (c : Dev nD) (t : Fin (cfgM m (ok m)).N) (n : Fin 4096) (ch : Fin 512) :
    iblk m (ok m) c 2 t (ix3 0 n ch) = m ((c : Thread nD τ).loc main_arg0) (ix3 (img t) n ⟨1024 + ch.val, by omega⟩) := by
  refine (congrFun (V_main_arg0 m c) _).trans (congrArg _ ?_)
  blk_ext [idx_2 m t]

/-- What the staged context keys hold, in terms of the second argument. -/
theorem read_kc (c : Dev nD) (t : Fin (cfgM m (ok m)).N) (n : Fin 256) (ch : Fin 512) :
    iblk m (ok m) c 3 t (ix3 0 n ch) = m ((c : Thread nD τ).loc main_arg1) (ix3 (img t) n ⟨512 + ch.val, by omega⟩) := by
  refine (congrFun (V_main_arg1 m c) _).trans (congrArg _ ?_)
  blk_ext [idx_3 m t]

/-- What the staged context values hold, in terms of the second argument. -/
theorem read_vc (c : Dev nD) (t : Fin (cfgM m (ok m)).N) (n : Fin 256) (ch : Fin 512) :
    iblk m (ok m) c 4 t (ix3 0 n ch) = m ((c : Thread nD τ).loc main_arg1) (ix3 (img t) n ⟨1024 + ch.val, by omega⟩) := by
  refine (congrFun (V_main_arg1 m c) _).trans (congrArg _ ?_)
  blk_ext [idx_4 m t]

/-- What the staged bias holds, in terms of the laid-out table. -/
theorem read_bias (c : Dev nD) (t : Fin (cfgM m (ok m)).N) (h : Fin 8) (i : Fin 256) (K : Fin 768) :
    iblk m (ok m) c 5 t (ix4 0 h i K) = V m c main_v220 (ix4 (config (grp t)) h i K) := by
  refine congrArg (V m c main_v220) ?_
  blk_ext [idx_5 m t]

/-- Inside the window the bias block holds the relative position's bias. -/
theorem bias_in (c : Dev nD) (r : Fin 16) (h : Fin 8) (a : Fin 4) (w : Fin 64) (j : Fin 128) (t : Fin 4096) (ht : t.val = 256 * r.val + (64 * a.val + w.val)) :
    V m c main_v220 (ix4 (config r) h ⟨64 * a.val + w.val, by omega⟩ (key (config r) a w j)) = m ((c : Thread nD τ).loc main_arg2) (ix3 h (winRow t j) (winCol t j)) := by
  have h1 := firstKey_le (config r) a
  have h2 := firstCol_le w.val
  have hrow := bias_row r a ⟨j.val / 16, by omega⟩
  have hs : firstKey (config r) a ≤ firstKey (config r) a + j.val / 16 ∧ firstKey (config r) a + j.val / 16 < firstKey (config r) a + 8 := ⟨by omega, by omega⟩
  have hc : firstCol w.val ≤ firstCol w.val + j.val % 16 ∧ firstCol w.val + j.val % 16 < firstCol w.val + 16 := ⟨by omega, by omega⟩
  refine (V_table m c (config r) h a w ⟨firstKey (config r) a + j.val / 16, by omega⟩ ⟨firstCol w.val + j.val % 16, by omega⟩).trans ?_
  rw [dif_pos hs, dif_pos hc]
  have h3 : t.val / 64 = 4 * r.val + a.val := by omega
  have h4 : t.val % 64 = w.val := by omega
  have e1 : relRow (config r) a ⟨firstKey (config r) a + j.val / 16, by omega⟩ = min (t.val / 64 - 4) 56 + 7 - t.val / 64 + j.val / 16 := by
    rw [h3]
    dsimp only at hrow
    omega
  have e2 : firstCol w.val + j.val % 16 + 15 - w.val = min (t.val % 64 - 8) 48 + 15 - t.val % 64 + j.val % 16 := by
    rw [h4]
    unfold firstCol
    omega
  refine congrArg (m ((c : Thread nD τ).loc main_arg2)) (funext fun k => Fin.ext ?_)
  match k with
  | ⟨0, _⟩ => rfl
  | ⟨1, _⟩ => exact e1
  | ⟨2, _⟩ => exact e2

/-- Outside the window the bias block holds minus infinity. -/
theorem bias_out (c : Dev nD) (r : Fin 16) (h : Fin 8) (a : Fin 4) (w : Fin 64) (K : Fin 768) (hK : K ∉ Set.range (key (config r) a w)) :
    V m c main_v220 (ix4 (config r) h ⟨64 * a.val + w.val, by omega⟩ K) = (⊥ : EReal) := by
  have e : K = ⟨64 * (⟨K.val / 64, by omega⟩ : Fin 12).val + (⟨K.val % 64, by omega⟩ : Fin 64).val, by dsimp only; omega⟩ := Fin.ext (by dsimp only; omega)
  rw [e, V_table]
  by_cases hs : firstKey (config r) a ≤ K.val / 64 ∧ K.val / 64 < firstKey (config r) a + 8
  · by_cases hc : firstCol w.val ≤ K.val % 64 ∧ K.val % 64 < firstCol w.val + 16
    · exact absurd (key_range _ a w K hs.1 hs.2 hc.1 hc.2) hK
    · rw [dif_pos hs, dif_neg hc]; exact bot_bits
  · rw [dif_neg hs]; exact bot_bits

/-- The word of the first table places the staged rows. -/
theorem off2_val : ∀ r : Fin 16, k0_off2 (lit1 r) = ![0, 64 * (lit1 r).toNat, 0] := by
  decide +kernel

/-- The number of blocks of the result, axis by axis. -/
theorem nblk_6 : ((cfgM m (ok m)).win 6).nblk = ![8, 16, 1] := by
  funext a
  match a with
  | ⟨0, _⟩ => show (8 + 1 - 1) / 1 = 8; norm_num
  | ⟨1, _⟩ => show (4096 + 256 - 1) / 256 = 16; norm_num
  | ⟨2, _⟩ => show (512 + 512 - 1) / 512 = 1; norm_num

/-- The written blocks cover the result. -/
theorem covers : ((cfgM m (ok m)).win 6).Covers := by
  refine ⟨fun a => match a with | ⟨0, _⟩ => Nat.one_pos | ⟨1, _⟩ => Nat.succ_pos 255 | ⟨2, _⟩ => Nat.succ_pos 511, fun β => ?_⟩
  have hβ : ∀ a, (β a).val < (![8, 16, 1] : Fin 3 → ℕ) a := fun a => lt_of_lt_of_eq (β a).isLt (congrFun (nblk_6 m) a)
  obtain ⟨t, hb, hr⟩ := coords_at ⟨_, hβ (0 : Fin 3)⟩ ⟨_, hβ (1 : Fin 3)⟩
  refine ⟨t, flush0_6 (adm m (ok m)) t, fun a => ⟨(congrFun (idx_6 m t) a).trans ?_, Or.inl ?_⟩⟩
  · match a with
    | ⟨0, _⟩ => exact congrArg Fin.val hb
    | ⟨1, _⟩ => exact congrArg Fin.val hr
    | ⟨2, _⟩ => exact (Nat.lt_one_iff.mp (hβ (2 : Fin 3))).symm
  · match a with
    | ⟨0, _⟩ => rfl
    | ⟨1, _⟩ => rfl
    | ⟨2, _⟩ => rfl

section
variable (c : Dev nD)
    (rqk : ∀ (b : Fin 8) (t : Fin 4096) (ch : Fin 1024), ∃ r : ℝ, @Eq EReal (m ((c : Thread nD τ).loc main_arg0) (ix3 b t ⟨ch.val, by omega⟩)) r)
    (rb : ∀ i, ∃ r : ℝ, @Eq EReal (m ((c : Thread nD τ).loc main_arg2) i) r)
    (rkc : ∀ (b : Fin 8) (t : Fin 256) (ch : Fin 512), ∃ r : ℝ, @Eq EReal (m ((c : Thread nD τ).loc main_arg1) (ix3 b t ⟨512 + ch.val, by omega⟩)) r)
include rqk rb rkc

/-- What a grid point's block holds at a query and a channel. -/
theorem block_attend (t : Fin grid0.N) (i : Fin 256) (ch : Fin 512) :
    headAt (iblk m (ok m) c 0 t) (iblk m (ok m) c 1 t) (iblk m (ok m) c 2 t) (iblk m (ok m) c 3 t) (iblk m (ok m) c 4 t) (iblk m (ok m) c 5 t) (64 * (lit1 (grp t)).toNat) (start_le (grp t)) i ⟨ch.val / 64, by omega⟩ ch
      = val_main_v104 (F := Ideal) (m ((c : Thread nD τ).loc main_arg0)) (m ((c : Thread nD τ).loc main_arg1)) (m ((c : Thread nD τ).loc main_arg2)) (ix3 (img t) ⟨256 * (grp t).val + i.val, by omega⟩ ch) := by
  have e := head_eq (m ((c : Thread nD τ).loc main_arg0)) (m ((c : Thread nD τ).loc main_arg1)) (m ((c : Thread nD τ).loc main_arg2)) (iblk m (ok m) c 0 t) (iblk m (ok m) c 1 t) (iblk m (ok m) c 2 t) (iblk m (ok m) c 3 t) (iblk m (ok m) c 4 t) (iblk m (ok m) c 5 t)
    (img t) (grp t) (read_q m c t) (read_k m c t) (read_v m c t) (read_kc m c t) (read_vc m c t)
    (fun h a w j n hn => (read_bias m c t h _ _).trans (bias_in m c (grp t) h a w j n hn)) (fun h a w K hK => (read_bias m c t h _ _).trans (bias_out m c (grp t) h a w K hK)) rqk rb rkc
    i ⟨ch.val / 64, by omega⟩ ⟨ch.val % 64, by omega⟩
  rw [result_at]
  refine Eq.trans (congrArg (headAt _ _ _ _ _ _ _ _ _ _) (Fin.ext ?_)) e
  show ch.val = 64 * (ch.val / 64) + ch.val % 64
  omega

/-- What a grid point stores. -/
theorem stored (t : Fin (cfgM m (ok m)).N) (y : S1x256x512.Idx) :
    outsAt0 m (ok m) (hyps m) c t y
      = val_main_v104 (F := Ideal) (m ((c : Thread nD τ).loc main_arg0)) (m ((c : Thread nD τ).loc main_arg1)) (m ((c : Thread nD τ).loc main_arg2)) (ix3 (img t) ⟨256 * (grp t).val + (y 1).val, by have : (y 1).val < 256 := (y 1).isLt; have := (grp t).isLt; omega⟩ (y 2)) := by
  unfold outsAt0
  have hlt : k0_off1 (grid0.coords t) 0 < 16 := by rw [off1_val]; exact (grp t).isLt
  exact (block_at c (grid0.coords t) _ _ _ _ _ _ _ _ _ _ _ _ _ _ _ _ _ _ _ _ _ _ _ y (64 * (lit1 (grp t)).toNat) (start_le (grp t)) hlt ((congrArg k0_off2 (start_at m (grid0.coords t) hlt)).trans (off2_val (grp t)))).trans
    (block_attend m c rqk rb rkc t (y 1) (y 2))

/-- The result array after the run is the reference's, the queries, keys and biases being real. -/
theorem final : (dats m (ok m) (hyps m) 0 c).arrAt 6 (cfgM m (ok m)).N
      = val_main_v104 (F := Ideal) (m ((c : Thread nD τ).loc main_arg0)) (m ((c : Thread nD τ).loc main_arg1)) (m ((c : Thread nD τ).loc main_arg2)) := by
  refine (dats m (ok m) (hyps m) 0 c).arrAt_eq_of_covers 6 _ (covers m) fun t _ y => ?_
  blk_simp
  rw [after0_6]
  refine (stored m c rqk rb rkc t _).trans (congrArg _ ?_)
  blk_ext [idx_6 m t]

end

/-- The result array after the run is the reference's, under the precondition. -/
theorem final_of_pre [Cert.Pre_finite_scores.Facts] (hpre : Cert.Pre_KernelIdeal_finite_scores m) (c : Dev nD) : (dats m (ok m) (hyps m) 0 c).arrAt 6 (cfgM m (ok m)).N
      = val_main_v104 (F := Ideal) (m ((c : Thread nD τ).loc main_arg0)) (m ((c : Thread nD τ).loc main_arg1)) (m ((c : Thread nD τ).loc main_arg2)) :=
  final m c (real_qk _ _ _ (hpre c).1) (real_bias _ _ _ (hpre c).2.2) (real_kc _ _ _ (hpre c).2.1)

end Cert.KernelIdeal.RefValue

end
-- ==== Proof.AttnRefRun.lean ====
/- The reference's run: the array it ends with as a function of its arguments. -/
module

public import proofs.«01_k».proof.Proof.Gen.ReferenceIdeal.Run
public import proofs.«01_k».proof.Proof.Gen.ReferenceIdeal.Read

@[expose] public section

set_option maxRecDepth 16384

noncomputable section

namespace Cert.ReferenceIdeal.Gen

open Idealize.ShloMosaic Idealize.ShloMosaic.TcCoe Idealize.SL.Sem Idealize.ShloMosaic.StableHlo

/-- Every run ends with the attention of the arguments, and with the arguments as they were. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v104) = Read.val_main_v104 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (Read.val_main_v104_eq (launchContents m c)), (h c).2⟩) (Value.run (F := Ideal) m g)

end Cert.ReferenceIdeal.Gen

end
-- ==== Proof.Merge.lean ====
/- The gated merge: the two arrays the tiled kernel leaves are the plain gated sum of the three branches with its residual, and the
   modulated norm of that stream with its tokens last. The proof goes in three steps: the gates, the residual stream, the norm. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen Cert.Reference3Ideal.Read

variable (m : (ℓ : Loc nD τ sig) → Buf (Elt Ideal) ℓ)

/-- Each window's block index at a grid point: eight token tiles per batch row, the weights and gains whole. -/
theorem idx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, 0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] ∧ win0_12.index t = ![0, 0]
    ∧ win0_13.index t = ![t.val / 8, t.val % 8, 0] ∧ win0_14.index t = ![t.val / 8, 0, t.val % 8] ∧ t.val < 64 :=
  (by decide +kernel : ∀ t : Fin grid0.N, _)

/-- The batch row a grid point works on. -/
def row (t : Fin cfg0.N) : Fin 8 := ⟨t.val / 8, by have := (idx t).2.2.2.2.2.2.2.2.2.2.2.2.2.2.2; omega⟩

/-- The token at row `r` of a grid point's tile. -/
def tok (t : Fin cfg0.N) (r : Fin 512) : Fin 4096 := ⟨t.val % 8 * 512 + r.val, by omega⟩

set_option maxHeartbeats 1600000 in
/-- The tile's gates are the reference's gates at the tile's tokens. -/
theorem gate_at (c : Dev nD) (t : Fin cfg0.N) (r : Fin 512) (j : Fin 3072) :
    k0_pay4 (F := Ideal) (iblk m c 0 t) (iblk m c 4 t) (iblk m c 5 t) (iblk m c 7 t) (iblk m c 8 t) (ix2 r j)
      = val_main_v36 (F := Ideal) (m ((c : Thread nD τ).loc main_arg0)) (m ((c : Thread nD τ).loc main_arg4)) (m ((c : Thread nD τ).loc main_arg5)) (m ((c : Thread nD τ).loc main_arg7)) (m ((c : Thread nD τ).loc main_arg8)) (ix3 (row t) (tok t r) j) := by
  simp only [val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_cst_apply, val_main_cst_0_apply, val_main_cst_1_apply, val_main_cst_2_apply, val_main_cst_3_apply, val_main_cst_4_apply]
  pointwise [k0_pay4, k0_pay3, k0_pay2]
  unfold row tok
  refine congrArg (fun z => Ideal.div 1 (1 + Ideal.exp (-z))) (congrArg₂ (· + ·) (Finset.sum_congr rfl fun d _ => congrArg₂ (· * ·) ?_ ?_) ?_)
  · blk_point [iblk, V, idx t]
  · blk_point [iblk, V, idx t]
  · blk_point [iblk, V, idx t]

set_option maxHeartbeats 1600000 in
/-- The tile's residual stream is the reference's at the tile's tokens: the gates enter by the lemma above. -/
theorem stream_at (c : Dev nD) (t : Fin cfg0.N) (r : Fin 512) (d : Fin 1024) :
    k0_pay7 (F := Ideal) (k0_pay2 (iblk m c 0 t)) (k0_pay3 (iblk m c 4 t)) (k0_pay4 (iblk m c 0 t) (iblk m c 4 t) (iblk m c 5 t) (iblk m c 7 t) (iblk m c 8 t)) (k0_pay5 (iblk m c 0 t) (iblk m c 4 t) (iblk m c 5 t) (iblk m c 7 t) (iblk m c 8 t)) (k0_pay6 (iblk m c 1 t)) (iblk m c 9 t) (iblk m c 2 t) (iblk m c 10 t) (iblk m c 3 t) (iblk m c 11 t) (iblk m c 12 t) (ix2 r d)
      = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (row t) (tok t r) d) := by
  have hG := gate_at m c t
  simp only [val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v3_apply, val_main_v2_apply, val_main_v1_apply, val_main_v0_apply]
  unfold k0_pay5
  generalize k0_pay4 (F := Ideal) (iblk m c 0 t) (iblk m c 4 t) (iblk m c 5 t) (iblk m c 7 t) (iblk m c 8 t) = G at hG ⊢
  generalize val_main_v36 (F := Ideal) (m ((c : Thread nD τ).loc main_arg0)) (m ((c : Thread nD τ).loc main_arg4)) (m ((c : Thread nD τ).loc main_arg5)) (m ((c : Thread nD τ).loc main_arg7)) (m ((c : Thread nD τ).loc main_arg8)) = G' at hG ⊢
  pointwise [k0_pay7, k0_pay6, k0_pay3, k0_pay2]
  refine congrArg₂ (· + ·) ?_ (congrArg₂ (· * ·) ?_ (Finset.sum_congr rfl fun e _ => congrArg₂ (· * ·)
    (congrArg₂ (· + ·) (congrArg₂ (· + ·) (congrArg₂ (· * ·) ?_ ?_) (congrArg₂ (· * ·) ?_ ?_)) (congrArg₂ (· * ·) ?_ ?_)) ?_))
  · blk_ext [iblk, V, idx t, row, tok]
  · blk_ext [iblk, V, idx t, row, tok]
  · exact (hG _ _).trans (by blk_ext [row, tok])
  · blk_point [iblk, V, idx t, row, tok]
  · exact (hG _ _).trans (by blk_ext [row, tok])
  · blk_point [iblk, V, idx t, row, tok]
  · exact (hG _ _).trans (by blk_ext [row, tok])
  · blk_point [iblk, V, idx t, row, tok]
  · blk_point [iblk, V, idx t, row, tok]

set_option maxHeartbeats 1600000 in
/-- The tile's second result is the reference's modulated norm of the residual stream, its tokens last. -/
theorem norm_at (c : Dev nD) (t : Fin cfg0.N) (r : Fin 512) (d : Fin 1024) :
    k0_pay1 (F := Ideal) (k0_pay7 (F := Ideal) (k0_pay2 (iblk m c 0 t)) (k0_pay3 (iblk m c 4 t)) (k0_pay4 (iblk m c 0 t) (iblk m c 4 t) (iblk m c 5 t) (iblk m c 7 t) (iblk m c 8 t)) (k0_pay5 (iblk m c 0 t) (iblk m c 4 t) (iblk m c 5 t) (iblk m c 7 t) (iblk m c 8 t)) (k0_pay6 (iblk m c 1 t)) (iblk m c 9 t) (iblk m c 2 t) (iblk m c 10 t) (iblk m c 3 t) (iblk m c 11 t) (iblk m c 12 t)) (k0_pay9 (iblk m c 6 t)) (k0_pay10 (k0_pay3 (iblk m c 4 t))) (k0_pay11 (k0_pay3 (iblk m c 4 t)))
        (k0_pay12 (k0_pay2 (iblk m c 0 t)) (k0_pay3 (iblk m c 4 t)) (k0_pay4 (iblk m c 0 t) (iblk m c 4 t) (iblk m c 5 t) (iblk m c 7 t) (iblk m c 8 t)) (k0_pay5 (iblk m c 0 t) (iblk m c 4 t) (iblk m c 5 t) (iblk m c 7 t) (iblk m c 8 t)) (k0_pay6 (iblk m c 1 t)) (iblk m c 9 t) (iblk m c 2 t) (iblk m c 10 t) (iblk m c 3 t) (iblk m c 11 t) (iblk m c 12 t)) (ix3 0 d r)
      = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (row t) d (tok t r)) := by
  have hX := stream_at m c t
  simp only [val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v3_apply, val_main_cst_5_apply, val_main_cst_6_apply, val_main_cst_7_apply, val_main_cst_8_apply]
  unfold k0_pay12
  generalize k0_pay7 (F := Ideal) (k0_pay2 (iblk m c 0 t)) (k0_pay3 (iblk m c 4 t)) (k0_pay4 (iblk m c 0 t) (iblk m c 4 t) (iblk m c 5 t) (iblk m c 7 t) (iblk m c 8 t)) (k0_pay5 (iblk m c 0 t) (iblk m c 4 t) (iblk m c 5 t) (iblk m c 7 t) (iblk m c 8 t)) (k0_pay6 (iblk m c 1 t)) (iblk m c 9 t) (iblk m c 2 t) (iblk m c 10 t) (iblk m c 3 t) (iblk m c 11 t) (iblk m c 12 t) = X at hX ⊢
  generalize val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = X' at hX ⊢
  pointwise [k0_pay1, k0_pay9, k0_pay10, k0_pay11, k0_pay3]
  refine congrArg₂ (· + ·) (congrArg₂ (· * ·) (congrArg₂ (· * ·) (congrArg₂ (· * ·) ((hX _ _).trans ?_)
    (congrArg (fun z => Ideal.rsqrt (Ideal.div z _ + _)) (Finset.sum_congr rfl fun e _ => congrArg₂ (· * ·) ((hX _ _).trans ?_) ((hX _ _).trans ?_)))) ?_)
    (congrArg (1 + ·) ?_)) ?_
  · blk_ext [row, tok]
  · blk_ext [row, tok]
  · blk_ext [row, tok]
  all_goals blk_point [iblk, V, idx t, row, tok]

/-- The first result array after the run is the reference's residual stream. -/
theorem final13 (c : Dev nD) : (dats m 0 c).arrAt 13 (cfgs 0).N
    = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t _ y => ?_
  blk_simp
  rw [after0_13]; unfold_out out0_13; frame_out
  refine Eq.trans ?_ ((stream_at m c t (y 1) (y 2)).trans (congrArg _ ?_))
  · pointwise [k0_pay8]
  · blk_ext [idx t, row, tok]

/-- The second result array after the run is the reference's normed stream. -/
theorem final14 (c : Dev nD) : (dats m 0 c).arrAt 14 (cfgs 0).N
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t _ y => ?_
  blk_simp
  rw [after0_14]; unfold_out out0_14; frame_out
  refine Eq.trans (congrArg _ ?_) ((norm_at m c t (y 2) (y 1)).trans (congrArg _ ?_))
  · blk_ext
  · blk_ext [idx t, row, tok]

end Cert.Kernel3Ideal.RefValue

end
-- ==== Proof.Inproj.lean ====
/- The combined input projection: the two arrays the tiled kernel leaves are the columns of the plain projection of the modulated
   norm, the queries scaled. One lemma reads the projection of a tile; the two results then only move its columns. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Reference4Ideal.Read

variable (m : (ℓ : Loc nD τ sig) → Buf (Elt Ideal) ℓ)

/-- Each window's block index at a grid point: eight token tiles per batch row, the weight and the gain whole. -/
theorem idx : ∀ t : Fin cfg0.N, win0_0.index t = ![t.val / 8, t.val % 8, 0] ∧ win0_1.index t = ![0, 0] ∧ win0_2.index t = ![t.val / 8, 0, 0]
    ∧ win0_3.index t = ![0, 0] ∧ win0_4.index t = ![t.val / 8, t.val % 8, 0] ∧ win0_5.index t = ![t.val / 8, t.val % 8, 0] ∧ t.val < 64 :=
  (by decide +kernel : ∀ t : Fin grid0.N, _)

/-- The batch row a grid point works on. -/
def row (t : Fin cfg0.N) : Fin 8 := ⟨t.val / 8, by have := (idx t).2.2.2.2.2.2; omega⟩

/-- The token at row `r` of a grid point's tile. -/
def tok (t : Fin cfg0.N) (r : Fin 512) : Fin 4096 := ⟨t.val % 8 * 512 + r.val, by omega⟩

set_option maxHeartbeats 1600000 in
/-- The tile's projection is the reference's at the tile's tokens. -/
theorem proj_at (c : Dev nD) (t : Fin cfg0.N) (r : Fin 512) (j : Fin 2816) :
    k0_pay3 (F := Ideal) (iblk m c 2 t) (iblk m c 0 t) (iblk m c 1 t) (iblk m c 3 t) (ix2 r j) = val_main_v24 (F := Ideal) (m ((c : Thread nD τ).loc main_arg0)) (m ((c : Thread nD τ).loc main_arg1)) (m ((c : Thread nD τ).loc main_arg2)) (m ((c : Thread nD τ).loc main_arg3)) (ix3 (row t) (tok t r) j) := by
  simp only [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  pointwise [k0_pay3]
  refine Finset.sum_congr rfl fun d _ => congrArg₂ (· * ·) ?_ ?_
  · blk_point [iblk, V, idx t, row, tok]
  · blk_point [iblk, V, idx t, row, tok]

/-- The first result's columns, from the tile's projection: the queries scaled, the keys and values as they are. -/
def columns (P : FVec Ideal S512x2816 .f32) (r : Fin 512) (j : Fin 1536) : EReal :=
  if j.val < 512 then P (ix2 r ⟨j.val, by omega⟩) * Ideal.ofBits .f32 0x3E000000#32 else P (ix2 r ⟨j.val, by omega⟩)

/-- The reference's first result at an index, by its projection. -/
theorem ref_at (x0 : FVec Ideal S8x4096x1024 .f32) (x1 : FVec Ideal S1024 .f32) (x2 : FVec Ideal S8x6x1024 .f32) (x3 : FVec Ideal S1024x2816 .f32)
    (b : Fin 8) (s : Fin 4096) (j : Fin 1536) :
    val_main_v30 (F := Ideal) x0 x1 x2 x3 (ix3 b s j)
      = if j.val < 512 then (show EReal from val_main_v24 (F := Ideal) x0 x1 x2 x3 (ix3 b s ⟨j.val, by omega⟩)) * Ideal.ofBits .f32 0x3E000000#32
        else val_main_v24 (F := Ideal) x0 x1 x2 x3 (ix3 b s ⟨j.val, by omega⟩) := by
  rw [val_main_v30_apply]
  unfold val_main_v29 val_main_v28 val_main_v27 val_main_v26 val_main_v25 val_main_cst_3
  generalize val_main_v24 (F := Ideal) x0 x1 x2 x3 = P
  pointwise
  split
  · rfl
  · blk_ext

/-- The first result's columns of a tile are the reference's at the tile's tokens. -/
theorem columns_at (c : Dev nD) (t : Fin cfg0.N) (r : Fin 512) (j : Fin 1536) :
    columns (k0_pay3 (F := Ideal) (iblk m c 2 t) (iblk m c 0 t) (iblk m c 1 t) (iblk m c 3 t)) r j = val_main_v30 (F := Ideal) (m ((c : Thread nD τ).loc main_arg0)) (m ((c : Thread nD τ).loc main_arg1)) (m ((c : Thread nD τ).loc main_arg2)) (m ((c : Thread nD τ).loc main_arg3)) (ix3 (row t) (tok t r) j) := by
  rw [ref_at]
  unfold columns
  rw [proj_at]

/-- The second result array after the run is the reference's remaining columns. -/
theorem final5 (c : Dev nD) : (dats m 0 c).arrAt 5 (cfgs 0).N = val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold outsAt0; frame_out
  rw [val_main_v31_apply]
  refine Eq.trans ?_ ((proj_at m c t (y 1) ⟨1536 + (y 2).val, by have : (y 2).val < 1280 := (y 2).isLt; omega⟩).trans (congrArg _ ?_))
  · pointwise [k0_pay2]
  · blk_ext [idx t, row, tok]

/-- The first result array after the run is the reference's queries, keys and values. -/
theorem final4 (c : Dev nD) : (dats m 0 c).arrAt 4 (cfgs 0).N = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold outsAt0; frame_out
  have hy : (y 2).val < 1536 := (y 2).isLt
  refine Eq.trans (b := columns (k0_pay3 (F := Ideal) (iblk m c 2 t) (iblk m c 0 t) (iblk m c 1 t) (iblk m c 3 t)) (y 1) (y 2)) ?_ ?_
  · unfold columns
    canon_tiles x h using View.cover_of_tiledBy _ ![1, 512, 512] (by sl_kernel_rfl) y
    · rw [if_neg (by omega)]
      pointwise [k0_pay1, k0_pay5]
      blk_ext
    · rw [if_pos (by omega)]
      pointwise [k0_pay4]
      refine congrArg (· * _) ?_
      blk_ext
  · refine (columns_at m c t (y 1) (y 2)).trans (congrArg _ ?_)
    blk_ext [idx t, row, tok]

end Cert.Kernel4Ideal.RefValue

end
-- ==== Proof.Scores.lean ====
/- The product-key scores: the array the tiled kernel leaves is the reference's contraction of every half key with its slice of the query. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

variable (m : (ℓ : Loc nD τ sig) → Buf (Elt Ideal) ℓ)

/-- Each window's block index at a grid point: eight token tiles per batch row, the two weight arrays whole. -/
theorem idx : ∀ t : Fin cfg0.N, win0_0.index t = ![t.val / 8, 0, t.val % 8] ∧ win0_1.index t = ![0, 0] ∧ win0_2.index t = ![0, 0, 0] ∧ win0_3.index t = ![0, 0, t.val] ∧ t.val < 64 :=
  (by decide +kernel : ∀ t : Fin grid0.N, _)

/-- The query projection written plainly: channel `a` of token `s`. -/
def query (X : FVec Ideal S8x1024x4096 .bf16) (W : FVec Ideal S1024x2048 .f32) (a : Fin 2048) (s : Fin 32768) : EReal :=
  ∑ d : Fin 1024, X (ix3 ⟨s.val / 4096, by omega⟩ d ⟨s.val % 4096, by omega⟩) * W (ix2 d a)

/-- The scores written plainly: half key `g`'s row `n` against the query slice `g` of token `s`. -/
def scores (X : FVec Ideal S8x1024x4096 .bf16) (W : FVec Ideal S1024x2048 .f32) (K : FVec Ideal S8x2x128x128 .f32)
    (g : Fin 16) (n : Fin 128) (s : Fin 32768) : EReal :=
  ∑ k : Fin 128, K (ix4 ⟨g.val / 2, by omega⟩ ⟨g.val % 2, by omega⟩ n k) * query X W ⟨g.val * 128 + k.val, by omega⟩ s

/-- The queries of one block: channel `a` of the block's token `r`. -/
def blockQuery (x0 : FVec Ideal S1x1024x512 .bf16) (x1 : FVec Ideal S2048x1024 .bf16) (a : Fin 2048) (r : Fin 512) : EReal :=
  ∑ d : Fin 1024, x1 (ix2 a d) * x0 (ix3 0 d r)

/-- The scores of one block, from the staged keys and the block's queries. -/
def blockScores (x0 : FVec Ideal S1x1024x512 .bf16) (x1 : FVec Ideal S2048x1024 .bf16) (K : FVec Ideal S16x128x128 .bf16)
    (g : Fin 16) (n : Fin 128) (r : Fin 512) : EReal :=
  ∑ k : Fin 128, K (ix3 g n k) * blockQuery x0 x1 ⟨g.val * 128 + k.val, by omega⟩ r

/-- The reference at an index is the plain formula. -/
theorem ref_at (X : FVec Ideal S8x1024x4096 .bf16) (W : FVec Ideal S1024x2048 .f32) (K : FVec Ideal S8x2x128x128 .f32)
    (g : Fin 16) (n : Fin 128) (s : Fin 32768) :
    Cert.Reference5Ideal.Read.val_main_v8 (F := Ideal) X W K (ix3 g n s) = scores X W K g n s := by
  simp only [Cert.Reference5Ideal.Read.val_main_v8_apply, Cert.Reference5Ideal.Read.val_main_v7_apply, Cert.Reference5Ideal.Read.val_main_v6_apply, Cert.Reference5Ideal.Read.val_main_v5_apply, Cert.Reference5Ideal.Read.val_main_v4_apply, Cert.Reference5Ideal.Read.val_main_v3_apply, Cert.Reference5Ideal.Read.val_main_v2_apply, Cert.Reference5Ideal.Read.val_main_v1_apply, Cert.Reference5Ideal.Read.val_main_v0_apply]
  pointwise [scores, query]
  have hs : ((g.val * 128 + n.val) * 32768 + s.val) % 32768 = s.val := by omega
  have hg : ((g.val * 128 + n.val) * 32768 + s.val) / 4194304 = g.val := by omega
  have hg2 : ((g.val * 128 + n.val) * 32768 + s.val) / 8388608 = g.val / 2 := by omega
  have hn : ((g.val * 128 + n.val) * 32768 + s.val) / 32768 % 128 = n.val := by omega
  have hq : ∀ k : Fin 128, (((s.val * 8 + g.val / 2) * 2 + g.val % 2) * 128 + k.val) / 2048 = s.val := by intro k; omega
  have hd : ∀ d : Fin 1024, (s.val * 1024 + d.val) / 1024 = s.val := by intro d; omega
  blk_point
  all_goals (simp only [hs, hg, hg2, hn, hq, hd] <;> omega)

/-- The block's queries are the query projection at the block's tokens. -/
theorem query_at (c : Dev nD) (t : Fin cfg0.N) (a : Fin 2048) (r : Fin 512) (s : Fin 32768) (hs : s.val = t.val * 512 + r.val) :
    blockQuery (iblk m c 0 t) (iblk m c 1 t) a r
      = query (m ((c : Thread nD τ).loc main_arg0)) (m ((c : Thread nD τ).loc main_arg1)) a s := by
  refine (Finset.sum_congr rfl fun d _ => mul_comm _ _).trans ?_
  unfold query
  blk_point [iblk, V, idx t]

/-- The block's scores are the plain scores at the block's tokens. -/
theorem block_at (c : Dev nD) (t : Fin cfg0.N) (g : Fin 16) (n : Fin 128) (r : Fin 512) (s : Fin 32768) (hs : s.val = t.val * 512 + r.val) :
    blockScores (iblk m c 0 t) (iblk m c 1 t) (iblk m c 2 t) g n r
      = scores (m ((c : Thread nD τ).loc main_arg0)) (m ((c : Thread nD τ).loc main_arg1)) (m ((c : Thread nD τ).loc main_arg2)) g n s := by
  unfold blockScores scores
  refine Finset.sum_congr rfl fun k _ => Ideal.mul_congr ?_ (query_at m c t _ r s hs)
  blk_ext! [iblk, V, idx t]

/-- What a grid point leaves at an index of its block is the block's score there, whichever of the sixteen stores wrote it. -/
theorem point (x0 : FVec Ideal S1x1024x512 .bf16) (x1 : FVec Ideal S2048x1024 .bf16) (x2 : FVec Ideal S16x128x128 .bf16) (y : S16x128x512.Idx) :
    out0_3 (F := Ideal) x0 x1 x2 y = blockScores x0 x1 x2 (y 0) (y 1) (y 2) := by
  unfold blockScores blockQuery
  unfold out0_3
  canon_tiles x h
  all_goals
    open_payloads
    pointwise
    blk_point

/-- The result array after the run is the reference's array. -/
theorem final (c : Dev nD) : (dats m 0 c).arrAt 3 (cfgs 0).N
    = Cert.Reference5Ideal.Read.val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hs : t.val * 512 + (y 2).val < 32768 := by have := (idx t).2.2.2.2; have : (y 2).val < 512 := (y 2).isLt; omega
  refine (point _ _ _ y).trans ((block_at m c t (y 0) (y 1) (y 2) ⟨_, hs⟩ rfl).trans ?_)
  refine (ref_at _ _ _ _ _ _).symm.trans ?_
  congr 1
  blk_ext [idx t]

end Cert.Kernel5Ideal.RefValue

end
-- ==== Proof.FinalNorm.lean ====
/- The closing normalisation: the array the tiled kernel leaves is the plain root-mean-square norm of the stream, read row by row. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

variable (m : (ℓ : Loc nD τ sig) → Buf (Elt Ideal) ℓ)

/-- Each window's block index at a grid point: rows move with the point, the gain stays. -/
theorem idx : ∀ t : Fin cfg0.N, win0_0.index t = ![t.val, 0] ∧ win0_1.index t = ![0, 0] ∧ win0_2.index t = ![t.val, 0] :=
  (by decide +kernel : ∀ t : Fin grid0.N, _)

set_option maxHeartbeats 1600000 in
/-- What a grid point stores at an index of its block is the norm of the reference at the array index under it. -/
theorem point (c : Dev nD) (t : Fin cfg0.N) (y) : k0_pay1 (iblk m c 0 t) (iblk m c 1 t) y
    = Cert.Reference6Ideal.Read.val_main_v13 (F := Ideal) (m ((c : Thread nD τ).loc main_arg0)) (m ((c : Thread nD τ).loc main_arg1)) (((cfg0.win 2).blk t).view.emb y) := by
  simp only [Cert.Reference6Ideal.Read.val_main_v13_apply, Cert.Reference6Ideal.Read.val_main_v12_apply, Cert.Reference6Ideal.Read.val_main_v11_apply, Cert.Reference6Ideal.Read.val_main_v10_apply, Cert.Reference6Ideal.Read.val_main_v9_apply, Cert.Reference6Ideal.Read.val_main_v8_apply, Cert.Reference6Ideal.Read.val_main_v7_apply, Cert.Reference6Ideal.Read.val_main_v6_apply, Cert.Reference6Ideal.Read.val_main_v5_apply, Cert.Reference6Ideal.Read.val_main_v4_apply, Cert.Reference6Ideal.Read.val_main_v3_apply, Cert.Reference6Ideal.Read.val_main_v2_apply, Cert.Reference6Ideal.Read.val_main_v1_apply, Cert.Reference6Ideal.Read.val_main_v0_apply,
    Cert.Reference6Ideal.Read.val_main_cst_apply, Cert.Reference6Ideal.Read.val_main_cst_0_apply, Cert.Reference6Ideal.Read.val_main_cst_1_apply]
  pointwise [k0_pay1]
  blk_point [iblk, V, idx t]

/-- The result array after the run is the reference's array. -/
theorem final (c : Dev nD) : (dats m 0 c).arrAt 2 (cfgs 0).N
    = Cert.Reference6Ideal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel6Ideal.RefValue

end
-- ==== Proof.lean ====
module

public import proofs.«01_k».proof.Defs
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel6
public import proofs.«01_k».proof.Proof.Gen.Kernel6.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.AttnTablesBits
public import proofs.«01_k».proof.Proof.AttnPre
public import proofs.«01_k».proof.Proof.AttnValue
public import proofs.«01_k».proof.Proof.AttnFinal
public import proofs.«01_k».proof.Proof.AttnRefRun
public import proofs.«01_k».proof.Proof.Merge
public import proofs.«01_k».proof.Proof.Inproj
public import proofs.«01_k».proof.Proof.Scores
public import proofs.«01_k».proof.Proof.FinalNorm
public import Idealize.ShloMosaic.Adequacy
public import Idealize.ShloMosaic.Init

@[expose] public section

noncomputable section

/-!
The conjuncts of `Cert.Claim`, one theorem each, from the run of every program and from the equations
between the two programs' pure terms (the modules under Proof/).
-/

namespace Cert.Proof

open Idealize.ShloMosaic Idealize.SL.Sem

/-- The reference of the merge step ends with every semaphore at zero and its arguments untouched. -/
theorem reference3_quiescent : Cert.quiescent_Reference3Ideal (hReference3Ideal := Cert.Reference3Ideal.Gen.facts) := by
  intro m g _
  refine (θ_run _ _ _).mono (fun r h => ⟨fun c => (h c).2.2, Idealize.ShloMosaic.sem_eq_zero_of_no_sems (by decide) r.2⟩)
    (Cert.Reference3Ideal.Value.run (F := Ideal) m g)

/-- The reference of the input projection ends with every semaphore at zero and its arguments untouched. -/
theorem reference4_quiescent : Cert.quiescent_Reference4Ideal (hReference4Ideal := Cert.Reference4Ideal.Gen.facts) := by
  intro m g _
  refine (θ_run _ _ _).mono (fun r h => ⟨fun c => (h c).2.2, Idealize.ShloMosaic.sem_eq_zero_of_no_sems (by decide) r.2⟩)
    (Cert.Reference4Ideal.Value.run (F := Ideal) m g)

/-- The reference of the key scores ends with every semaphore at zero and its arguments untouched. -/
theorem reference5_quiescent : Cert.quiescent_Reference5Ideal (hReference5Ideal := Cert.Reference5Ideal.Gen.facts) := by
  intro m g _
  refine (θ_run _ _ _).mono (fun r h => ⟨fun c => (h c).2, Idealize.ShloMosaic.sem_eq_zero_of_no_sems (by decide) r.2⟩)
    (Cert.Reference5Ideal.Value.run (F := Ideal) m g)

/-- The reference of the final normalisation ends with every semaphore at zero and its arguments untouched. -/
theorem reference6_quiescent : Cert.quiescent_Reference6Ideal (hReference6Ideal := Cert.Reference6Ideal.Gen.facts) := by
  intro m g _
  refine (θ_run _ _ _).mono (fun r h => ⟨fun c => (h c).2, Idealize.ShloMosaic.sem_eq_zero_of_no_sems (by decide) r.2⟩)
    (Cert.Reference6Ideal.Value.run (F := Ideal) m g)

/-- The merge kernel and its reference end with the same two arrays. -/
theorem algebraic3 : Cert.algebraic_Kernel3Ideal_Reference3Ideal
    (hKernel3Ideal := Cert.Kernel3Ideal.Gen.facts) (hReference3Ideal := Cert.Reference3Ideal.Gen.facts) := by
  pair_intro
  · run_from Cert.Kernel3Ideal.Value.run_blocks (F := Ideal) m g
  · run_from Cert.Reference3Ideal.Value.run (F := Ideal) m' g'
    · obtain ⟨h0, h1, h2, h3, h4, h5, h6, h7, h8, h9, h10, h11, h12⟩ := hagree c
      refine (Cert.Reference3Ideal.Read.val_main_v57_eq ..).trans ?_
      simp only [h0, h1, h2, h3, h4, h5, h6, h7, h8, h9, h10, h11, h12]
      exact (Cert.Kernel3Ideal.RefValue.final13 m c).symm
    · obtain ⟨h0, h1, h2, h3, h4, h5, h6, h7, h8, h9, h10, h11, h12⟩ := hagree c
      refine (Cert.Reference3Ideal.Read.val_main_v82_eq ..).trans ?_
      simp only [h0, h1, h2, h3, h4, h5, h6, h7, h8, h9, h10, h11, h12]
      exact (Cert.Kernel3Ideal.RefValue.final14 m c).symm

/-- The input projection kernel and its reference end with the same two arrays. -/
theorem algebraic4 : Cert.algebraic_Kernel4Ideal_Reference4Ideal
    (hKernel4Ideal := Cert.Kernel4Ideal.Gen.facts) (hReference4Ideal := Cert.Reference4Ideal.Gen.facts) := by
  pair_intro
  · run_from Cert.Kernel4Ideal.Value.run_blocks (F := Ideal) m g
  · run_from Cert.Reference4Ideal.Value.run (F := Ideal) m' g'
    · refine (Cert.Reference4Ideal.Read.val_main_v30_eq ..).trans ?_
      simp only [(hagree c).2.2.2]
      exact (Cert.Kernel4Ideal.RefValue.final4 m c).symm
    · refine (Cert.Reference4Ideal.Read.val_main_v31_eq ..).trans ?_
      exact (Cert.Kernel4Ideal.RefValue.final5 m c).symm

/-- The key score kernel and its reference end with the same array. -/
theorem algebraic5 : Cert.algebraic_Kernel5Ideal_Reference5Ideal
    (hKernel5Ideal := Cert.Kernel5Ideal.Gen.facts) (hReference5Ideal := Cert.Reference5Ideal.Gen.facts) := by
  pair_intro
  · run_from Cert.Kernel5Ideal.Value.run_blocks (F := Ideal) m g
  · run_from Cert.Reference5Ideal.Value.run (F := Ideal) m' g'
    exact ((Cert.Reference5Ideal.Read.val_main_v8_eq ..).trans (Cert.Kernel5Ideal.RefValue.final m c).symm)

/-- The final normalisation kernel and its reference end with the same array. -/
theorem algebraic6 : Cert.algebraic_Kernel6Ideal_Reference6Ideal
    (hKernel6Ideal := Cert.Kernel6Ideal.Gen.facts) (hReference6Ideal := Cert.Reference6Ideal.Gen.facts) := by
  pair_intro
  · run_from Cert.Kernel6Ideal.Value.run_blocks (F := Ideal) m g
  · run_from Cert.Reference6Ideal.Value.run (F := Ideal) m' g'
    exact ((Cert.Reference6Ideal.Read.val_main_v13_eq ..).trans (Cert.Kernel6Ideal.RefValue.final m c).symm)

/-- The reference of the attention ends with every semaphore at zero and its arguments untouched. -/
theorem reference_quiescent : Cert.quiescent_ReferenceIdeal (hReferenceIdeal := Cert.ReferenceIdeal.Gen.facts) := by
  intro m g _
  refine (θ_run _ _ _).mono (fun r h => ⟨fun c => (h c).2, Idealize.ShloMosaic.sem_eq_zero_of_no_sems (by decide) r.2⟩)
    (Cert.ReferenceIdeal.Value.run (F := Ideal) m g)

/-- The attention kernel and its reference end with the same array, the numbers the scores are made of being finite. -/
theorem algebraic : Cert.algebraic_KernelIdeal_ReferenceIdeal_pre_finite_scores
    (hKernelIdeal := Cert.KernelIdeal.Gen.facts) (hReferenceIdeal := Cert.ReferenceIdeal.Gen.facts) (hPre_finite_scores := Cert.KernelIdeal.RefValue.preFacts) := by
  intro m g m' g' hpre hagree
  refine ⟨fun c => (Cert.KernelIdeal.Gen.dats m (Cert.KernelIdeal.Gen.ok m) (Cert.KernelIdeal.Gen.hyps m) 0 c).arrAt 6 (Cert.KernelIdeal.Gen.cfgM m (Cert.KernelIdeal.Gen.ok m)).N, Cert.KernelIdeal.Gen.run_value m g, ?_⟩
  refine (θ_run _ _ _).mono (fun r h c => ⟨(h c).1.trans ?_, (h c).2⟩) (Cert.ReferenceIdeal.Gen.run_value m' g')
  rw [(hagree c).1, (hagree c).2.1, (hagree c).2.2]
  exact (@Cert.KernelIdeal.RefValue.final_of_pre m Cert.KernelIdeal.RefValue.preFacts hpre c).symm

/-- The certificate's claim. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.KernelIdeal.RefValue.preFacts,
    fun m g _ => Cert.Kernel.Gen.frame m g (Cert.Kernel.Gen.ok m) (Cert.Kernel.Gen.hyps m),
    fun m g _ => Cert.KernelIdeal.Gen.frame m g (Cert.KernelIdeal.Gen.ok m) (Cert.KernelIdeal.Gen.hyps m),
    fun m g _ => Cert.KernelIdeal.Gen.frame m g (Cert.KernelIdeal.Gen.ok m) (Cert.KernelIdeal.Gen.hyps m),
    reference_quiescent, fun m g _ => reference_quiescent m g trivial,
    fun m g _ => Cert.Kernel3.Gen.frame m g, fun m g _ => Cert.Kernel3Ideal.Gen.frame m g, reference3_quiescent,
    fun m g _ => Cert.Kernel4.Gen.frame m g, fun m g _ => Cert.Kernel4Ideal.Gen.frame m g, reference4_quiescent,
    fun m g _ => Cert.Kernel5.Gen.frame m g, fun m g _ => Cert.Kernel5Ideal.Gen.frame m g, reference5_quiescent,
    fun m g _ => Cert.Kernel6.Gen.frame m g, fun m g _ => Cert.Kernel6Ideal.Gen.frame m g, reference6_quiescent,
    trivial, algebraic, trivial, algebraic3, trivial, algebraic4, trivial, algebraic5, trivial, algebraic6⟩

end Cert.Proof

end
